-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_finite_point_and_directions [hPre_a_finite_point_and_directions : Cert.Pre_a_finite_point_and_directions.Facts] (m : (ℓ : Loc Cert.KernelIdeal.nD Cert.KernelIdeal.τ Cert.KernelIdeal.sig) → Buf (Elt Ideal) ℓ) : Prop :=
  ∀ c : Dev Cert.KernelIdeal.nD,
    (Cert.Pre_a_finite_point_and_directions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_finite_point_and_directions [hPre_a_finite_point_and_directions : Cert.Pre_a_finite_point_and_directions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_finite_point_and_directions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_a_finite_point_and_directions [hKernelIdeal : Cert.KernelIdeal.Facts] [hPre_a_finite_point_and_directions : Cert.Pre_a_finite_point_and_directions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_finite_point_and_directions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_a_finite_point_and_directions [hReferenceIdeal : Cert.ReferenceIdeal.Facts] [hPre_a_finite_point_and_directions : Cert.Pre_a_finite_point_and_directions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_finite_point_and_directions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_a_finite_point_and_directions [hKernelIdeal : Cert.KernelIdeal.Facts] [hReferenceIdeal : Cert.ReferenceIdeal.Facts] [hPre_a_finite_point_and_directions : Cert.Pre_a_finite_point_and_directions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_finite_point_and_directions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_a_finite_point_and_directions : Cert.Pre_a_finite_point_and_directions.Facts),
    quiescent_Kernel (hKernel := hKernel)
    ∧ quiescent_KernelIdeal (hKernelIdeal := hKernelIdeal)
    ∧ quiescent_KernelIdeal_pre_a_finite_point_and_directions (hKernelIdeal := hKernelIdeal) (hPre_a_finite_point_and_directions := hPre_a_finite_point_and_directions)
    ∧ quiescent_ReferenceIdeal (hReferenceIdeal := hReferenceIdeal)
    ∧ quiescent_ReferenceIdeal_pre_a_finite_point_and_directions (hReferenceIdeal := hReferenceIdeal) (hPre_a_finite_point_and_directions := hPre_a_finite_point_and_directions)
    ∧ preserves_Kernel_KernelIdeal
    ∧ algebraic_KernelIdeal_ReferenceIdeal_pre_a_finite_point_and_directions (hKernelIdeal := hKernelIdeal) (hReferenceIdeal := hReferenceIdeal) (hPre_a_finite_point_and_directions := hPre_a_finite_point_and_directions)
-- ==== Pre_a_finite_point_and_directions.lean ====
abbrev S8x512x128 : Shape := ⟨3, ![8, 512, 128]⟩
abbrev S512x128 : Shape := ⟨2, ![512, 128]⟩
abbrev S16x128 : Shape := ⟨2, ![16, 128]⟩
abbrev S_ : Shape := ⟨0, ![]⟩
abbrev S512 : Shape := ⟨1, ![512]⟩
abbrev S16 : Shape := ⟨1, ![16]⟩

class Facts : Prop where
  bcast_S_S512x128 : S_.BroadcastsInDim S512x128 (![] : Fin 0 → Fin S512x128.rank)
  reducesTo_S512x128_S512_d1 : S512x128.ReducesTo [1] S512
  h_S_ : 0 < S_.numel
  reducesTo_S512_S_d0 : S512.ReducesTo [0] S_
  bcast_S_S16x128 : S_.BroadcastsInDim S16x128 (![] : Fin 0 → Fin S16x128.rank)
  reducesTo_S16x128_S16_d1 : S16x128.ReducesTo [1] S16
  reducesTo_S16_S_d0 : S16.ReducesTo [0] S_

variable [Facts]

def fn {F : FTy → Type} [FloatOps F] (main_arg0 : FVec F S8x512x128 .f32) (main_arg1 : FVec F S512x128 .f32) (main_arg2 : FVec F S16x128 .f32) : IVec S_ 1 :=
  let main_v0 : FVec F S512x128 .f32 := Host.absf main_arg1
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S512 1 := (fun x v => Host.reduce IntOp.andi x v reducesTo_S512x128_S512_d1 h_S_) main_v2 main_c
  let main_c_0 : IVec S_ 1 := constantI S_ 1 0#1
  let main_v4 : IVec S_ 1 := (fun x v => Host.reduce IntOp.ori x v reducesTo_S512_S_d0 h_S_) main_v3 main_c_0
  let main_cst_1 : FVec F S_ .f32 := constant S_ .f32 0x00000000#32
  let main_v5 : FVec F S16x128 .f32 := broadcastInDim S16x128 ![] bcast_S_S16x128 main_cst_1
  let main_v6 : IVec S16x128 1 := cmpf .une main_arg2 main_v5
  let main_c_2 : IVec S_ 1 := constantI S_ 1 0#1
  let main_v7 : IVec S16 1 := (fun x v => Host.reduce IntOp.ori x v reducesTo_S16x128_S16_d1 h_S_) main_v6 main_c_2
  let main_c_3 : IVec S_ 1 := constantI S_ 1 1#1
  let main_v8 : IVec S_ 1 := (fun x v => Host.reduce IntOp.andi x v reducesTo_S16_S_d0 h_S_) main_v7 main_c_3
  let main_v9 : IVec S_ 1 := andi main_v4 main_v8
  main_v9
-- ==== Kernel.lean ====
abbrev S8x512x128 : Shape := ⟨3, ![8, 512, 128]⟩
abbrev S512x128 : Shape := ⟨2, ![512, 128]⟩
abbrev S16x128 : Shape := ⟨2, ![16, 128]⟩
abbrev S8x16 : Shape := ⟨2, ![8, 16]⟩
abbrev S1x512x128 : Shape := ⟨3, ![1, 512, 128]⟩
abbrev S128x16 : Shape := ⟨2, ![128, 16]⟩
abbrev S512x16 : Shape := ⟨2, ![512, 16]⟩
abbrev S16x512x512 : Shape := ⟨3, ![16, 512, 512]⟩
abbrev S512x512 : Shape := ⟨2, ![512, 512]⟩
abbrev S16x512 : Shape := ⟨2, ![16, 512]⟩
abbrev S16 : Shape := ⟨1, ![16]⟩
abbrev S16x1 : Shape := ⟨2, ![16, 1]⟩
abbrev S128x512 : Shape := ⟨2, ![128, 512]⟩
abbrev S512x1 : Shape := ⟨2, ![512, 1]⟩
abbrev S1x512 : Shape := ⟨2, ![1, 512]⟩
abbrev S512 : Shape := ⟨1, ![512]⟩
abbrev S1x512x512 : Shape := ⟨3, ![1, 512, 512]⟩
abbrev S1 : Shape := ⟨1, ![1]⟩
abbrev S1x1 : Shape := ⟨2, ![1, 1]⟩
abbrev S1x16 : Shape := ⟨2, ![1, 16]⟩
abbrev S_ : Shape := ⟨0, ![]⟩

abbrev nBuf : Space → Nat
  | .hbm => 7
  | .vmem => 17
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S16x128, .f32⟩
  | .hbm, ⟨3, _⟩ => ⟨S8x512x128, .f32⟩
  | .hbm, ⟨4, _⟩ => ⟨S8x16, .f32⟩
  | .hbm, ⟨5, _⟩ => ⟨S_, .f32⟩
  | .hbm, ⟨6, _⟩ => ⟨S16, .f32⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S16x128, .f32⟩
  | .local _ .vmem, ⟨4, _⟩ => ⟨S1x512x128, .f32⟩
  | .local _ .vmem, ⟨5, _⟩ => ⟨S1x512x128, .f32⟩
  | .local _ .vmem, ⟨6, _⟩ => ⟨S8x16, .f32⟩
  | .local _ .vmem, ⟨7, _⟩ => ⟨S128x16, .f32⟩
  | .local _ .vmem, ⟨8, _⟩ => ⟨S512x16, .i32⟩
  | .local _ .vmem, ⟨9, _⟩ => ⟨S16x512x512, .f32⟩
  | .local _ .vmem, ⟨10, _⟩ => ⟨S512x512, .f32⟩
  | .local _ .vmem, ⟨11, _⟩ => ⟨S512x512, .bf16⟩
  | .local _ .vmem, ⟨12, _⟩ => ⟨S512x512, .f32⟩
  | .local _ .vmem, ⟨13, _⟩ => ⟨S16x512, .i32⟩
  | .local _ .vmem, ⟨14, _⟩ => ⟨S8x16, .f32⟩
  | .local _ .vmem, ⟨15, _⟩ => ⟨S8x16, .f32⟩
  | .local _ .vmem, ⟨16, _⟩ => ⟨S16x512x512, .bf16⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v1335 : Index := Scalar.indexCast arg0
  let c0_597 : Index := 0#32
  ![v1335.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x512x128 : Shape := ⟨3, ![8, 512, 128]⟩
abbrev S512x128 : Shape := ⟨2, ![512, 128]⟩
abbrev S16x128 : Shape := ⟨2, ![16, 128]⟩
abbrev S_ : Shape := ⟨0, ![]⟩
abbrev S16 : Shape := ⟨1, ![16]⟩
abbrev S16x1 : Shape := ⟨2, ![16, 1]⟩
abbrev S8x512x16 : Shape := ⟨3, ![8, 512, 16]⟩
abbrev S512x16 : Shape := ⟨2, ![512, 16]⟩
abbrev S1x512x16 : Shape := ⟨3, ![1, 512, 16]⟩
abbrev S8 : Shape := ⟨1, ![8]⟩
abbrev S8x1x1 : Shape := ⟨3, ![8, 1, 1]⟩
abbrev S1x1x16 : Shape := ⟨3, ![1, 1, 16]⟩
abbrev S8x512x512x16 : Shape := ⟨4, ![8, 512, 512, 16]⟩
abbrev S8x512x16x1 : Shape := ⟨4, ![8, 512, 16, 1]⟩
abbrev S8x512x16x4 : Shape := ⟨4, ![8, 512, 16, 4]⟩
abbrev S512 : Shape := ⟨1, ![512]⟩
abbrev S8x512 : Shape := ⟨2, ![8, 512]⟩
abbrev S8x512x512 : Shape := ⟨3, ![8, 512, 512]⟩
abbrev S1x512x1 : Shape := ⟨3, ![1, 512, 1]⟩
abbrev S8x1x512 : Shape := ⟨3, ![8, 1, 512]⟩
abbrev S8x512x512x1 : Shape := ⟨4, ![8, 512, 512, 1]⟩
abbrev S8x16 : Shape := ⟨2, ![8, 16]⟩
abbrev S8x1 : Shape := ⟨2, ![8, 1]⟩
abbrev S8x1x1x16 : Shape := ⟨4, ![8, 1, 1, 16]⟩
abbrev S8x512x1 : Shape := ⟨3, ![8, 512, 1]⟩
abbrev S1x512x128 : Shape := ⟨3, ![1, 512, 128]⟩
abbrev S8x16x512 : Shape := ⟨3, ![8, 16, 512]⟩
abbrev S8x16x1x512 : Shape := ⟨4, ![8, 16, 1, 512]⟩
abbrev S8x16x512x1 : Shape := ⟨4, ![8, 16, 512, 1]⟩
abbrev S8x16x512x512 : Shape := ⟨4, ![8, 16, 512, 512]⟩
abbrev S8x1x512x512 : Shape := ⟨4, ![8, 1, 512, 512]⟩

abbrev nBuf : Space → Nat
  | .hbm => 196
  | .vmem => 0
  | .smem => 0
  | _ => 0

abbrev hbmTy0_0 (i : Nat) : BufTy := match i % 128 with
  | 0 => ⟨S8x512x128, .f32⟩
  | 1 => ⟨S512x128, .f32⟩
  | 2 => ⟨S16x128, .f32⟩
  | 3 => ⟨S16x128, .f32⟩
  | 4 => ⟨S_, .f32⟩
  | 5 => ⟨S16, .f32⟩
  | 6 => ⟨S16x1, .f32⟩
  | 7 => ⟨S16x1, .f32⟩
  | 8 => ⟨S16x128, .f32⟩
  | 9 => ⟨S16x128, .f32⟩
  | 10 => ⟨S8x512x16, .f32⟩
  | 11 => ⟨S512x16, .f32⟩
  | 12 => ⟨S1x512x16, .f32⟩
  | 13 => ⟨S8x512x16, .f32⟩
  | 14 => ⟨S8x512x16, .i32⟩
  | 15 => ⟨S8x512x16, .f32⟩
  | 16 => ⟨S8x512x16, .i32⟩
  | 17 => ⟨S8x512x16, .i32⟩
  | 18 => ⟨S8x512x16, .f32⟩
  | 19 => ⟨S8x512x16, .i32⟩
  | 20 => ⟨S8, .i32⟩
  | 21 => ⟨S8x1x1, .i32⟩
  | 22 => ⟨S8x512x16, .i32⟩
  | 23 => ⟨S16, .i32⟩
  | 24 => ⟨S1x1x16, .i32⟩
  | 25 => ⟨S8x512x16, .i32⟩
  | 26 => ⟨S_, .f32⟩
  | 27 => ⟨S8x512x512x16, .f32⟩
  | 28 => ⟨S_, .i32⟩
  | 29 => ⟨S8x512x16, .i32⟩
  | 30 => ⟨S8x512x16, .i1⟩
  | 31 => ⟨S_, .i32⟩
  | 32 => ⟨S8x512x16, .i32⟩
  | 33 => ⟨S8x512x16, .i32⟩
  | 34 => ⟨S8x512x16, .i32⟩
  | 35 => ⟨S_, .i32⟩
  | 36 => ⟨S8x512x16, .i32⟩
  | 37 => ⟨S8x512x16, .i1⟩
  | 38 => ⟨S_, .i32⟩
  | 39 => ⟨S8x512x16, .i32⟩
  | 40 => ⟨S8x512x16, .i32⟩
  | 41 => ⟨S8x512x16, .i32⟩
  | 42 => ⟨S_, .i32⟩
  | 43 => ⟨S8x512x16, .i32⟩
  | 44 => ⟨S8x512x16, .i1⟩
  | 45 => ⟨S_, .i32⟩
  | 46 => ⟨S8x512x16, .i32⟩
  | 47 => ⟨S8x512x16, .i32⟩
  | 48 => ⟨S8x512x16, .i32⟩
  | 49 => ⟨S_, .i32⟩
  | 50 => ⟨S8x512x16, .i32⟩
  | 51 => ⟨S8x512x16, .i1⟩
  | 52 => ⟨S_, .i32⟩
  | 53 => ⟨S8x512x16, .i32⟩
  | 54 => ⟨S8x512x16, .i32⟩
  | 55 => ⟨S8x512x16, .i32⟩
  | 56 => ⟨S8x512x16x1, .i32⟩
  | 57 => ⟨S8x512x16x1, .i32⟩
  | 58 => ⟨S8x512x16x1, .i32⟩
  | 59 => ⟨S8x512x16x1, .i32⟩
  | 60 => ⟨S8x512x16x4, .i32⟩
  | 61 => ⟨S_, .f32⟩
  | 62 => ⟨S8x512x16, .f32⟩
  | 63 => ⟨S8x512x512x16, .f32⟩
  | 64 => ⟨S512x128, .f32⟩
  | 65 => ⟨S_, .f32⟩
  | 66 => ⟨S512, .f32⟩
  | 67 => ⟨S8x512x128, .f32⟩
  | 68 => ⟨S_, .f32⟩
  | 69 => ⟨S8x512, .f32⟩
  | 70 => ⟨S8x512x512, .f32⟩
  | 71 => ⟨S8x512x512, .f32⟩
  | 72 => ⟨S1x512x1, .f32⟩
  | 73 => ⟨S8x1x512, .f32⟩
  | 74 => ⟨S8x512x512, .f32⟩
  | 75 => ⟨S8x512x512, .f32⟩
  | 76 => ⟨S8x512x512, .f32⟩
  | 77 => ⟨S_, .f32⟩
  | 78 => ⟨S8x512x512, .f32⟩
  | 79 => ⟨S8x512x512, .f32⟩
  | 80 => ⟨S8x512x512, .f32⟩
  | 81 => ⟨S_, .f32⟩
  | 82 => ⟨S8x512x512, .f32⟩
  | 83 => ⟨S8x512x512, .f32⟩
  | 84 => ⟨S8x512x512, .f32⟩
  | 85 => ⟨S8x512x512x1, .f32⟩
  | 86 => ⟨S8x512x512x16, .f32⟩
  | 87 => ⟨S8x512x512x16, .f32⟩
  | 88 => ⟨S_, .f32⟩
  | 89 => ⟨S8x16, .f32⟩
  | 90 => ⟨S8x16, .f32⟩
  | 91 => ⟨S_, .f32⟩
  | 92 => ⟨S8x16, .f32⟩
  | 93 => ⟨S8x16, .f32⟩
  | 94 => ⟨S_, .f32⟩
  | 95 => ⟨S8, .f32⟩
  | 96 => ⟨S_, .f32⟩
  | 97 => ⟨S8, .f32⟩
  | 98 => ⟨S8, .f32⟩
  | 99 => ⟨S8x1, .f32⟩
  | 100 => ⟨S8x16, .f32⟩
  | 101 => ⟨S8x16, .f32⟩
  | 102 => ⟨S8x16, .f32⟩
  | 103 => ⟨S_, .f32⟩
  | 104 => ⟨S8, .f32⟩
  | 105 => ⟨S8x1, .f32⟩
  | 106 => ⟨S8x16, .f32⟩
  | 107 => ⟨S8x16, .f32⟩
  | 108 => ⟨S8x1x1x16, .f32⟩
  | 109 => ⟨S8x512x512x16, .f32⟩
  | 110 => ⟨S8x512x512x16, .f32⟩
  | 111 => ⟨S_, .f32⟩
  | 112 => ⟨S8x512x512, .f32⟩
  | 113 => ⟨S_, .f32⟩
  | 114 => ⟨S8x512, .f32⟩
  | 115 => ⟨S8x512x1, .f32⟩
  | 116 => ⟨S_, .f32⟩
  | 117 => ⟨S8x512x1, .f32⟩
  | 118 => ⟨S8x512x1, .f32⟩
  | 119 => ⟨S8x512x128, .f32⟩
  | 120 => ⟨S8x512x128, .f32⟩
  | 121 => ⟨S8x512x128, .f32⟩
  | 122 => ⟨S1x512x128, .f32⟩
  | 123 => ⟨S8x512x128, .f32⟩
  | 124 => ⟨S8x512x128, .f32⟩
  | 125 => ⟨S8x16x512, .f32⟩
  | 126 => ⟨S8x16x512, .f32⟩
  | 127 => ⟨S8x16x512, .f32⟩
  | _ => ⟨S8x512x128, .f32⟩

abbrev hbmTy0_1 (i : Nat) : BufTy := match i % 128 with
  | 0 => ⟨S8x16x512, .f32⟩
  | 1 => ⟨S8x16x1x512, .f32⟩
  | 2 => ⟨S8x16x512x1, .f32⟩
  | 3 => ⟨S8x16x512x512, .f32⟩
  | 4 => ⟨S8x16x512x512, .f32⟩
  | 5 => ⟨S8x16x512x512, .f32⟩
  | 6 => ⟨S8x16x512x512, .f32⟩
  | 7 => ⟨S8x16x512x512, .f32⟩
  | 8 => ⟨S_, .f32⟩
  | 9 => ⟨S8x16x512x512, .f32⟩
  | 10 => ⟨S8x16x512x512, .f32⟩
  | 11 => ⟨S_, .f32⟩
  | 12 => ⟨S8x16x512, .f32⟩
  | 13 => ⟨S_, .f32⟩
  | 14 => ⟨S8x16x512, .f32⟩
  | 15 => ⟨S8x16x512, .f32⟩
  | 16 => ⟨S8x16x512x1, .f32⟩
  | 17 => ⟨S8x16x512x512, .f32⟩
  | 18 => ⟨S8x16x512x512, .f32⟩
  | 19 => ⟨S8x16x512x512, .f32⟩
  | 20 => ⟨S_, .f32⟩
  | 21 => ⟨S8x16x512, .f32⟩
  | 22 => ⟨S8x16x512x1, .f32⟩
  | 23 => ⟨S8x16x512x512, .f32⟩
  | 24 => ⟨S8x16x512x512, .f32⟩
  | 25 => ⟨S8x16x512, .f32⟩
  | 26 => ⟨S8x16x512, .f32⟩
  | 27 => ⟨S8x16x512, .f32⟩
  | 28 => ⟨S8x16x512, .f32⟩
  | 29 => ⟨S8x16x1x512, .f32⟩
  | 30 => ⟨S8x16x512x1, .f32⟩
  | 31 => ⟨S8x16x512x512, .f32⟩
  | 32 => ⟨S8x16x512x512, .f32⟩
  | 33 => ⟨S8x16x512x512, .f32⟩
  | 34 => ⟨S8x16x512x512, .f32⟩
  | 35 => ⟨S8x16x512x512, .f32⟩
  | 36 => ⟨S_, .f32⟩
  | 37 => ⟨S8x16x512x512, .f32⟩
  | 38 => ⟨S8x16x512x512, .f32⟩
  | 39 => ⟨S_, .f32⟩
  | 40 => ⟨S8x16x512, .f32⟩
  | 41 => ⟨S_, .f32⟩
  | 42 => ⟨S8x16x512, .f32⟩
  | 43 => ⟨S8x16x512, .f32⟩
  | 44 => ⟨S8x16x512x1, .f32⟩
  | 45 => ⟨S8x16x512x512, .f32⟩
  | 46 => ⟨S8x16x512x512, .f32⟩
  | 47 => ⟨S8x16x512x512, .f32⟩
  | 48 => ⟨S_, .f32⟩
  | 49 => ⟨S8x16x512, .f32⟩
  | 50 => ⟨S8x16x512x1, .f32⟩
  | 51 => ⟨S8x16x512x512, .f32⟩
  | 52 => ⟨S8x16x512x512, .f32⟩
  | 53 => ⟨S8x16x512x512, .f32⟩
  | 54 => ⟨S8x16x512x512, .f32⟩
  | 55 => ⟨S_, .f32⟩
  | 56 => ⟨S8x16x512x512, .f32⟩
  | 57 => ⟨S8x16x512x512, .f32⟩
  | 58 => ⟨S8x1x512x512, .f32⟩
  | 59 => ⟨S8x16x512x512, .f32⟩
  | 60 => ⟨S8x16x512x512, .f32⟩
  | 61 => ⟨S_, .f32⟩
  | 62 => ⟨S8x16, .f32⟩
  | 63 => ⟨S_, .f32⟩
  | 64 => ⟨S16, .f32⟩
  | 65 => ⟨S_, .f32⟩
  | 66 => ⟨S16, .f32⟩
  | 67 => ⟨S16, .f32⟩
  | _ => ⟨S8x512x128, .f32⟩

abbrev hbmTy (i : Nat) : BufTy := match i / 128 with
  | 0 => hbmTy0_0 i
  | 1 => hbmTy0_1 i
  | _ => ⟨S8x512x128, .f32⟩

abbrev bufTy : (tb : Table) → Fin (tcTables nBuf tb) → BufTy
  | .hbm, ⟨i, _⟩ => hbmTy i
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1_0 : Ref sig .tc := ⟨.hbm, 15, rfl⟩
abbrev main_v10 : Ref sig .tc := ⟨.hbm, 16, rfl⟩
abbrev main_call1_v0 : Ref sig .tc := ⟨.hbm, 17, rfl⟩
abbrev main_call1_v1_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_cst_20 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_21 : Ref sig .tc := ⟨.hbm, 136, rfl⟩
abbrev main_v106 : Ref sig .tc := ⟨.hbm, 137, rfl⟩
abbrev main_v107 : Ref sig .tc := ⟨.hbm, 138, rfl⟩
abbrev main_cst_22 : Ref sig .tc := ⟨.hbm, 139, rfl⟩
abbrev main_v108 : Ref sig .tc := ⟨.hbm, 140, rfl⟩
abbrev main_cst_23 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_24 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_25 : Ref sig .tc := ⟨.hbm, 164, rfl⟩
abbrev main_v130 : Ref sig .tc := ⟨.hbm, 165, rfl⟩
abbrev main_v131 : Ref sig .tc := ⟨.hbm, 166, rfl⟩
abbrev main_cst_26 : Ref sig .tc := ⟨.hbm, 167, rfl⟩
abbrev main_v132 : Ref sig .tc := ⟨.hbm, 168, rfl⟩
abbrev main_cst_27 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_28 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_29 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_30 : Ref sig .tc := ⟨.hbm, 189, rfl⟩
abbrev main_v150 : Ref sig .tc := ⟨.hbm, 190, rfl⟩
abbrev main_cst_31 : Ref sig .tc := ⟨.hbm, 191, rfl⟩
abbrev main_v151 : Ref sig .tc := ⟨.hbm, 192, rfl⟩
abbrev main_cst_32 : Ref sig .tc := ⟨.hbm, 193, rfl⟩
abbrev main_v152 : Ref sig .tc := ⟨.hbm, 194, rfl⟩
abbrev main_v153 : Ref sig .tc := ⟨.hbm, 195, rfl⟩

abbrev nD : Nat := 1
abbrev τ : Topo := Topo.v7x

variable {F : FTy → Type} [FloatOps F]
-- ==== Proof.Run.Math.lean ====
module
public import Idealize.ShloMosaic.Lib.Pointwise
public import Idealize.ShloMosaic.Lib.SortPrefix
public import Idealize.ShloMosaic.Lib.SortFacts

/-! Ranks and orders of 512 extended reals: the ordering by value and then by position, the rank it
gives, and what both say of a stable sort. -/

@[expose] public section
open Idealize Idealize.ShloMosaic
open scoped BigOperators

namespace Cert.Ranks

/-- Position `i` goes before position `j`: by value, and among equal values by position. -/
def Bef (s : Fin 512 → EReal) (i j : Fin 512) : Prop := s i < s j ∨ (s i = s j ∧ i < j)

noncomputable instance (s : Fin 512 → EReal) (i j : Fin 512) : Decidable (Bef s i j) := Classical.dec _

/-- Nothing comes before itself. -/
theorem Bef.irrefl (s : Fin 512 → EReal) (i : Fin 512) : ¬ Bef s i i := by
  rintro (h | ⟨_, h⟩)
  · exact lt_irrefl _ h
  · exact lt_irrefl _ h

/-- The order is transitive. -/
theorem Bef.trans {s : Fin 512 → EReal} {i j k : Fin 512} (h : Bef s i j) (h' : Bef s j k) : Bef s i k := by
  rcases h with h | ⟨e, h⟩ <;> rcases h' with h' | ⟨e', h'⟩
  · exact .inl (h.trans h')
  · exact .inl (e' ▸ h)
  · exact .inl (e ▸ h')
  · exact .inr ⟨e.trans e', h.trans h'⟩

/-- Of two places one comes first. -/
theorem Bef.total {s : Fin 512 → EReal} {i j : Fin 512} (h : i ≠ j) : Bef s i j ∨ Bef s j i := by
  rcases lt_trichotomy (s i) (s j) with l | e | l
  · exact .inl (.inl l)
  · rcases lt_or_gt_of_ne h with l | l
    · exact .inl (.inr ⟨e, l⟩)
    · exact .inr (.inr ⟨e.symm, l⟩)
  · exact .inr (.inl l)

/-- The rank of a position: how many positions go before it. -/
noncomputable def rk (s : Fin 512 → EReal) (j : Fin 512) : ℕ := (Finset.univ.filter fun i => Bef s i j).card

/-- What comes before has the lower rank. -/
theorem rk_lt_of_bef {s : Fin 512 → EReal} {i j : Fin 512} (h : Bef s i j) : rk s i < rk s j := by
  apply Finset.card_lt_card
  refine (Finset.ssubset_iff_of_subset fun k hk => ?_).2 ⟨i, by simpa using h, by simpa using Bef.irrefl s i⟩
  simp only [Finset.mem_filter, Finset.mem_univ, true_and] at hk ⊢
  exact hk.trans h

/-- Ranks are distinct. -/
theorem rk_inj (s : Fin 512 → EReal) : Function.Injective (rk s) := by
  intro i j h
  by_contra hne
  rcases Bef.total (s := s) hne with hb | hb
  · exact absurd h (rk_lt_of_bef hb).ne
  · exact absurd h (rk_lt_of_bef hb).ne'

/-- A rank is below the number of places. -/
theorem rk_lt (s : Fin 512 → EReal) (j : Fin 512) : rk s j < 512 := by
  have : rk s j < (Finset.univ : Finset (Fin 512)).card := by
    apply Finset.card_lt_card
    exact (Finset.ssubset_iff_of_subset (Finset.subset_univ _)).2 ⟨j, Finset.mem_univ _, by simpa using Bef.irrefl s j⟩
  simpa using this

/-- Counting the positions after one gives the same rank from the other end. -/
theorem after_add_rk (s : Fin 512 → EReal) (i : Fin 512) :
    (Finset.univ.filter fun j => Bef s i j).card + rk s i = 511 := by
  have hd : Disjoint (Finset.univ.filter fun j => Bef s i j) (Finset.univ.filter fun j => Bef s j i) := by
    rw [Finset.disjoint_filter]
    exact fun j _ h h' => Bef.irrefl s i (h.trans h')
  rw [rk, ← Finset.card_union_of_disjoint hd]
  have : (Finset.univ.filter fun j => Bef s i j) ∪ (Finset.univ.filter fun j => Bef s j i) = Finset.univ.erase i := by
    ext j
    simp only [Finset.mem_union, Finset.mem_filter, Finset.mem_univ, true_and, Finset.mem_erase, and_true]
    constructor
    · rintro (h | h) rfl <;> exact Bef.irrefl s _ h
    · exact fun h => Bef.total (Ne.symm h)
  rw [this, Finset.card_erase_of_mem (Finset.mem_univ _)]
  simp

/-- The rank as a permutation of the positions. -/
noncomputable def rkE (s : Fin 512 → EReal) : Fin 512 ≃ Fin 512 :=
  Equiv.ofBijective (fun j => ⟨rk s j, rk_lt s j⟩)
    (Finite.injective_iff_bijective.1 fun i j h => rk_inj s (congrArg Fin.val h))

/-- The rank as a permutation is the rank. -/
theorem rkE_val (s : Fin 512 → EReal) (j : Fin 512) : (rkE s j).val = rk s j := rfl

/-- The position of a given rank. -/
noncomputable def at_ (s : Fin 512 → EReal) (p : Fin 512) : Fin 512 := (rkE s).symm p

/-- The place of rank `p` has rank `p`. -/
theorem rk_at (s : Fin 512 → EReal) (p : Fin 512) : rk s (at_ s p) = p := by
  rw [← rkE_val, at_, Equiv.apply_symm_apply]

/-- The place of rank `p` is the one whose rank is `p`. -/
theorem eq_at_iff (s : Fin 512 → EReal) (p j : Fin 512) : at_ s p = j ↔ rk s j = p := by
  rw [at_, Equiv.symm_apply_eq, Fin.ext_iff, rkE_val, eq_comm]

/-- Places of rising rank are in order. -/
theorem bef_at {s : Fin 512 → EReal} {p q : Fin 512} (h : p < q) : Bef s (at_ s p) (at_ s q) := by
  have hne : at_ s p ≠ at_ s q := fun e => h.ne ((rkE s).symm.injective e)
  rcases Bef.total (s := s) hne with hb | hb
  · exact hb
  · have := rk_lt_of_bef hb
    rw [rk_at, rk_at] at this
    exact absurd this (not_lt.2 h.le)

/-- Values by rising rank do not fall. -/
theorem mono_at (s : Fin 512 → EReal) : Monotone (fun p => s (at_ s p)) := by
  intro p q h
  rcases h.lt_or_eq with h | rfl
  · rcases bef_at (s := s) h with h | ⟨h, _⟩
    · exact h.le
    · exact h.le
  · exact le_rfl

/-- The stable sort by the ordering puts at each place the position of that rank. -/
theorem sortedFrom_bef (s : Fin 512 → EReal) (p : Fin 512) (B : Fin 512 → Fin 512 → Bool)
    (hB : ∀ i j, B i j = true ↔ Bef s i j) : sortedFrom B p = at_ s p := by
  have hS : StrictTotalBefore B :=
    ⟨fun a => by rw [Bool.eq_false_iff]; exact fun h => Bef.irrefl s a ((hB _ _).1 h),
     fun a b c h h' => (hB _ _).2 (((hB _ _).1 h).trans ((hB _ _).1 h')),
     fun a b h => (Bef.total (s := s) h).imp (hB _ _).2 (hB _ _).2⟩
  have := hS.sortedFrom_eq_of_prefix le_rfl (at_ s) (rkE s).symm.injective
    (fun i j h => by
      rw [Bool.eq_false_iff]
      exact fun hb => Bef.irrefl s _ (((hB _ _).1 hb).trans (bef_at h)))
    (fun i p h => absurd ((rkE s).symm_apply_apply p) (h (rkE s p))) p
  simpa using this

/-- Of two rearrangements in increasing order neither is anywhere below the other. -/
theorem not_lt_of_mono {s : Fin 512 → EReal} {σ τ : Equiv.Perm (Fin 512)} (hσ : Monotone (s ∘ σ))
    (hτ : Monotone (s ∘ τ)) (i : Fin 512) : ¬ s (σ i) < s (τ i) := by
  intro h
  have hc : ∀ ρ : Equiv.Perm (Fin 512), (Finset.univ.filter fun k => s (ρ k) ≤ s (σ i)).card
      = (Finset.univ.filter fun k => s k ≤ s (σ i)).card := fun ρ =>
    Finset.card_bij (fun k _ => ρ k) (fun k hk => by simpa using hk) (fun _ _ _ _ e => ρ.injective e)
      (fun k hk => ⟨ρ.symm k, by simpa using hk, by simp⟩)
  have h1 : (Finset.Iic i).card ≤ (Finset.univ.filter fun k => s (σ k) ≤ s (σ i)).card :=
    Finset.card_le_card fun k hk => by simpa using hσ (Finset.mem_Iic.1 hk)
  have h2 : (Finset.univ.filter fun k => s (τ k) ≤ s (σ i)).card ≤ (Finset.Iio i).card :=
    Finset.card_le_card fun k hk => by
      simp only [Finset.mem_filter, Finset.mem_univ, true_and, Finset.mem_Iio] at hk ⊢
      by_contra hle
      exact absurd (h.trans_le (hτ (not_lt.1 hle))) (not_lt.2 hk)
  rw [hc] at h1 h2
  rw [Fin.card_Iic] at h1
  rw [Fin.card_Iio] at h2
  omega

/-- Two rearrangements in increasing order are one. -/
theorem eq_of_mono {s : Fin 512 → EReal} {σ τ : Equiv.Perm (Fin 512)} (hσ : Monotone (s ∘ σ))
    (hτ : Monotone (s ∘ τ)) (i : Fin 512) : s (σ i) = s (τ i) :=
  le_antisymm (not_lt.1 (not_lt_of_mono hτ hσ i)) (not_lt.1 (not_lt_of_mono hσ hτ i))

/-- The stable sort by a strict order of the negated values, read from its end, lists the values in increasing
order. -/
theorem mono_neg_sorted {n : ℕ} (s : Fin n → EReal) (B : Fin n → Fin n → Bool)
    (hB : ∀ i j, B i j = true ↔ -s i < -s j) : Monotone fun p : Fin n => s (sortedFrom B p.rev) := by
  have hinv : ∀ i j : Fin n, i < j → B (sortedFrom B j) (sortedFrom B i) = false :=
    sortedFrom_noInversion B B
      (fun a b h => by rw [Bool.eq_false_iff]; exact fun h' => lt_asymm ((hB _ _).1 h) ((hB _ _).1 h'))
      (fun _ _ h => h)
      (fun a b c h h' => by
        rw [Bool.eq_false_iff, ne_eq, hB, not_lt] at h h' ⊢
        exact h'.trans h)
  intro p q h
  rcases h.lt_or_eq with h | rfl
  · have h1 := hinv q.rev p.rev (Fin.rev_lt_rev.2 h)
    rw [Bool.eq_false_iff, ne_eq, hB, not_lt, EReal.neg_le_neg_iff] at h1
    exact h1
  · exact le_rfl

/-- The stable sort's places, read from the end, as a permutation. -/
theorem exists_perm_sorted {n : ℕ} (B : Fin n → Fin n → Bool) :
    ∃ σ : Equiv.Perm (Fin n), ∀ p, σ p = sortedFrom B p.rev :=
  ⟨Fin.revPerm.trans (Equiv.ofBijective (sortedFrom B) ⟨sortedFrom_injective B, sortedFrom_surjective B⟩),
    fun _ => rfl⟩

/-- The stable sort of the negated values by value alone, read back through the negation, lists the values
from the greatest down: at place `i` the value of rank `511 - i`. -/
theorem neg_sorted (s : Fin 512 → EReal) (i : Fin 512) (B : Fin 512 → Fin 512 → Bool)
    (hB : ∀ i j, B i j = true ↔ -s i < -s j) : s (sortedFrom B i) = s (at_ s i.rev) := by
  obtain ⟨σ, hσ⟩ := exists_perm_sorted B
  have hm : Monotone (s ∘ σ) := by
    have := mono_neg_sorted s B hB
    rwa [show s ∘ σ = fun p => s (sortedFrom B p.rev) from funext fun p => congrArg s (hσ p)]
  have h1 := eq_of_mono (τ := (rkE s).symm) hm (mono_at s) i.rev
  rw [hσ, Fin.rev_rev] at h1
  exact h1

/-- An insertion depends only on what the comparator says of the entries it meets. -/
theorem insertBefore_of {ι : Type} (B C : ι → ι → Bool) (a : ι) (l : List ι) (h : ∀ b ∈ l, B b a = C b a) :
    insertBefore B a l = insertBefore C a l := by
  induction l with
  | nil => rfl
  | cons b l ih =>
    unfold insertBefore
    rw [h b List.mem_cons_self, ih fun c hc => h c (List.mem_cons_of_mem _ hc)]

/-- A stable sort of increasing positions depends only on what its comparator says of a later position against an earlier one. -/
theorem stableSort_of_lt {n : Nat} (B C : Fin n → Fin n → Bool) (h : ∀ a b, a < b → B b a = C b a)
    (l : List (Fin n)) (hl : l.Pairwise (· < ·)) : stableSort B l = stableSort C l := by
  induction l with
  | nil => rfl
  | cons a l ih =>
    obtain ⟨ha, hl⟩ := List.pairwise_cons.1 hl
    unfold stableSort
    rw [ih hl]
    exact insertBefore_of B C a _ fun b hb => h a b (ha b ((perm_stableSort _ l).mem_iff.1 hb))

/-- So does the position it puts at a place. -/
theorem sortedFrom_of_lt {n : Nat} (B C : Fin n → Fin n → Bool) (h : ∀ a b, a < b → B b a = C b a) (k : Fin n) :
    sortedFrom B k = sortedFrom C k := by
  have e : sortPositions n B = sortPositions n C :=
    stableSort_of_lt B C h _ (List.pairwise_lt_finRange n)
  unfold sortedFrom
  simp only [List.get_eq_getElem]
  exact List.getElem_of_eq e _

/-- The stable sort by value alone puts at each place the position of that rank. -/
theorem sortedFrom_lt (s : Fin 512 → EReal) (p : Fin 512) (B : Fin 512 → Fin 512 → Bool)
    (hB : ∀ i j, B i j = true ↔ s i < s j) : sortedFrom B p = at_ s p := by
  rw [sortedFrom_of_lt B (fun i j => decide (Bef s i j)) (fun a b h => ?_) p]
  · exact sortedFrom_bef s p _ fun i j => by simp
  · rw [Bool.eq_iff_iff, hB, decide_eq_true_iff]
    exact ⟨.inl, fun h' => h'.elim id fun h' => absurd (h.trans h'.2) (lt_irrefl _)⟩

end Cert.Ranks
-- ==== Proof.Run.Spec.lean ====
module
public import proofs.«01_k».proof.Proof.Run.Math

/-! The mathematics of the problem over the extended reals, entry by entry. -/

@[expose] public section
open Idealize Idealize.ShloMosaic
open scoped BigOperators

noncomputable section

namespace Cert.Spec

open Cert.Ranks

/-- The direction of slice `l`: the weight row over its length. -/
def dirW (v : Fin 16 → Fin 128 → EReal) (l : Fin 16) (d : Fin 128) : EReal :=
  Ideal.div (v l d) (Ideal.sqrt (∑ d', v l d' * v l d'))

/-- The projections of the points `x` on slice `l`. -/
def proj (x : Fin 512 → Fin 128 → EReal) (v : Fin 16 → Fin 128 → EReal) (l : Fin 16) (n : Fin 512) : EReal :=
  ∑ d, x n d * dirW v l d

/-- The distance of the reference point `i` and the point `n`, kept from zero. -/
def cost (r x : Fin 512 → Fin 128 → EReal) (i n : Fin 512) : EReal :=
  Ideal.sqrt (max ((∑ d, r i d * r i d) + (∑ d, x n d * x n d) - Ideal.ofBits .f32 0x40000000#32 * ∑ d, r i d * x n d)
    (Ideal.ofBits .f32 0x2B8CBCCC#32))

/-- The values from the greatest down. -/
def desc (s : Fin 512 → EReal) (i : Fin 512) : EReal := s (at_ s i.rev)

/-- The squared difference of the `i`-th greatest value and the `n`-th value. -/
def sq (s : Fin 512 → EReal) (i n : Fin 512) : EReal := (s n - desc s i) * (s n - desc s i)

/-- The soft sort's weights before their division by their sum. -/
def softE (s : Fin 512 → EReal) (i n : Fin 512) : EReal := Ideal.exp (Finset.univ.inf (sq s i) - sq s i n)

/-- The soft sort. -/
def soft (s : Fin 512 → EReal) (i n : Fin 512) : EReal := Ideal.div (softE s i n) (∑ k, softE s i k)

/-- One over the number of points. -/
def c512 : EReal := Ideal.ofBits .f32 0x3B000000#32

/-- The cost of matching equal ranks, over the number of points. -/
def ed (c : Fin 512 → Fin 512 → EReal) (sr sx : Fin 512 → EReal) : EReal :=
  (∑ i, ∑ n, if rk sr i = rk sx n then c i n else 0) * c512

/-- The weights before their division by their sum. -/
def wE (e : Fin 16 → EReal) (l : Fin 16) : EReal := Ideal.exp (-e l - Finset.univ.sup fun k => -e k)

/-- The weights of the slices. -/
def wt (e : Fin 16 → EReal) (l : Fin 16) : EReal := Ideal.div (wE e l) (∑ k, wE e k)

/-- The expected plan times the number of points. -/
def mix (sr sx : Fin 16 → Fin 512 → EReal) (w : Fin 16 → EReal) (i n : Fin 512) : EReal :=
  ∑ l, if rk (sr l) i = rk (sx l) n then w l else 0

/-- The embedding from the expected plan times the number of points. -/
def emb (E : Fin 512 → Fin 512 → EReal) (r x : Fin 512 → Fin 128 → EReal) (i : Fin 512) (d : Fin 128) : EReal :=
  Ideal.div ((∑ n, E i n * x n d) * c512) ((∑ n, E i n) * c512 + Ideal.ofBits .f32 0x322BCC77#32) - r i d

end Cert.Spec
-- ==== Proof.Run.Setup.lean ====
module

public import proofs.«01_k».proof.Proof.Gen.KernelIdeal.Skeleton
public import proofs.«01_k».proof.Proof.Gen.KernelIdeal.Frame
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x16 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S128x16 .f32 := Memref.whole cc0_scratch0
abbrev scM0_1 : Memref sig .tc .vmem S512x16 .i32 := Memref.whole cc0_scratch1
abbrev scM0_2 : Memref sig .tc .vmem S16x512x512 .f32 := Memref.whole cc0_scratch2
abbrev scM0_3 : Memref sig .tc .vmem S512x512 .f32 := Memref.whole cc0_scratch3
abbrev scM0_4 : Memref sig .tc .vmem S512x512 .bf16 := Memref.whole cc0_scratch4
abbrev scM0_5 : Memref sig .tc .vmem S512x512 .f32 := Memref.whole cc0_scratch5
abbrev scM0_6 : Memref sig .tc .vmem S16x512 .i32 := Memref.whole cc0_scratch6
abbrev scM0_7 : Memref sig .tc .vmem S8x16 .f32 := Memref.whole cc0_scratch7
abbrev scM0_8 : Memref sig .tc .vmem S8x16 .f32 := Memref.whole cc0_scratch8
abbrev scM0_9 : Memref sig .tc .vmem S16x512x512 .bf16 := Memref.whole cc0_scratch9
/-- The scratch `arg6` the kernel carries between points, as a view: what it holds is stated through it. -/
abbrev VS0_0 : View sig .tc .vmem S128x16 .f32 := scM0_0.view
/-- The scratch `arg7` the kernel carries between points, as a view: what it holds is stated through it. -/
abbrev VS0_1 : View sig .tc .vmem S512x16 .i32 := scM0_1.view
/-- The scratch `arg8` the kernel carries between points, as a view: what it holds is stated through it. -/
abbrev VS0_2 : View sig .tc .vmem S16x512x512 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Hand

end
-- ==== Proof.Run.Stages.lean ====
module

public import proofs.«01_k».proof.Proof.Run.Setup
public import Idealize.ShloMosaic.Lib.Pointwise
public import Idealize.ShloMosaic.Lib.Pipeline.ReadBack
public import Idealize.ShloMosaic.Lib.Pipeline.Value

/-! The stages of the kernel's body, each once for every slice `l`: the ranks, the embedding distances, the soft sorts, the slice
    distances and the expected plan, as vectors over any arithmetic; and how a scratch buffer filled slice by slice is read. -/

@[expose] public section

set_option maxRecDepth 16384

noncomputable section

namespace Cert.KernelIdeal.Hand

open Cert.KernelIdeal.Gen
open Idealize.ShloMosaic Idealize.ShloMosaic.TcCoe

/-! ## Buffers filled slice by slice -/

section Stack

variable {S : Shape} {e : EltTy} {Val : EltTy → Type}

/-- The stores of slices `0 … k-1`, the last first: slice `l` writes `P l` into the rectangle `R l`. -/
def stack (R : Fin 16 → Rect S) (P : (l : Fin 16) → (R l).shape.Idx → Val e) : (k : ℕ) → k ≤ 16 → List (View.Piece Val S e)
  | 0, _ => []
  | k + 1, h => ⟨R ⟨k, h⟩, P ⟨k, h⟩⟩ :: stack R P k (Nat.le_of_succ_le h)

/-- After the stores of `k` slices, the rectangle of slice `l < k` holds what slice `l` wrote. -/
theorem canon_stack [∀ e, Nonempty (Val e)] (R : Fin 16 → Rect S) (P : (l : Fin 16) → (R l).shape.Idx → Val e)
    (hd : ∀ l l', l ≠ l' → Disjoint (R l).set (R l').set) (l : Fin 16) (x : (R l).shape.Idx) :
    ∀ (k : ℕ) (h : k ≤ 16) (_ : l.val < k), View.canon (stack R P k h) ((R l).emb x) = P l x
  | k + 1, h, hl => by
    by_cases he : l = ⟨k, h⟩
    · subst he
      exact View.canon_cons_emb _ _ _ _
    · rw [stack, View.canon_cons_of_not_mem _ _ (Finset.disjoint_left.mp (hd l _ he) ((R l).idx_mem x))]
      refine canon_stack R P hd l x k _ ?_
      have : l.val ≠ k := fun h' => he (Fin.ext h')
      omega

/-- A load of slice `l`'s rectangle after the stores of `k > l` slices reads what slice `l` wrote. -/
theorem readCov_stack [∀ e, Nonempty (Val e)] {sig : RefSig} {κ : Kind} {sp : Space} (v : View sig κ sp S e) (R : Fin 16 → Rect S)
    (P : (l : Fin 16) → (R l).shape.Idx → Val e) (hd : ∀ l l', l ≠ l' → Disjoint (R l).set (R l').set) (l : Fin 16) (k : ℕ)
    (h : k ≤ 16) (hl : l.val < k) : v.readCov (stack R P k h) (R l).toLoadRect = P l := by
  rw [View.readCov_eq_canon']
  funext x
  exact canon_stack R P hd l x k h hl

end Stack

/-- A load from a whole buffer's contents reads them at the load's rectangle. -/
theorem readAt_unread_ld {sig : RefSig} {κ : Kind} {sp : Space} {s : Shape} {e : EltTy} {Val : EltTy → Type} {m : Memref sig κ sp s e}
    (h : m.IsWhole) (X : s.Idx → Val e) (r : Rect s) : m.view.readAt Val r.toLoadRect (h.unread X) = View.ld X r :=
  congrArg (fun Y => View.ld Y r) (h.read_unread X)

/-! ## The rectangles of slice `l` -/

/-- Column `l` of a 512×16 buffer. -/
abbrev rCol (l : Fin 16) : Rect S512x16 := Rect.unit ![0, l.val] S512x1.size (fun a => by
  have := l.isLt; match a with | 0 => show 0 + 512 ≤ 512; omega | 1 => show l.val + 1 ≤ 16; omega)
/-- Row `l` of a 16×512 buffer. -/
abbrev rRow (l : Fin 16) : Rect S16x512 := Rect.unit ![l.val, 0] S1x512.size (fun a => by
  have := l.isLt; match a with | 0 => show l.val + 1 ≤ 16; omega | 1 => show 0 + 512 ≤ 512; omega)
/-- Cell `(0, l)` of an 8×16 buffer. -/
abbrev rCell (l : Fin 16) : Rect S8x16 := Rect.unit ![0, l.val] S1x1.size (fun a => by
  have := l.isLt; match a with | 0 => show 0 + 1 ≤ 8; omega | 1 => show l.val + 1 ≤ 16; omega)
/-- Slab `l` of a 16×512×512 buffer. -/
abbrev rSlab (l : Fin 16) : Rect S16x512x512 := Rect.unit ![l.val, 0, 0] S1x512x512.size (fun a => by
  have := l.isLt; match a with | 0 => show l.val + 1 ≤ 16; omega | 1 => show 0 + 512 ≤ 512; omega | 2 => show 0 + 512 ≤ 512; omega)

/-- Two columns are apart. -/
theorem rCol_disjoint (l l' : Fin 16) (h : l ≠ l') : Disjoint (rCol l).set (rCol l').set := by
  rw [Finset.disjoint_left]; intro y hy hy'
  have h1 := Rect.mem_set_unit.mp hy 1; have h2 := Rect.mem_set_unit.mp hy' 1
  simp at h1 h2; exact h (Fin.ext (by omega))
/-- Two rows are apart. -/
theorem rRow_disjoint (l l' : Fin 16) (h : l ≠ l') : Disjoint (rRow l).set (rRow l').set := by
  rw [Finset.disjoint_left]; intro y hy hy'
  have h1 := Rect.mem_set_unit.mp hy 0; have h2 := Rect.mem_set_unit.mp hy' 0
  simp at h1 h2; exact h (Fin.ext (by omega))
/-- Two cells are apart. -/
theorem rCell_disjoint (l l' : Fin 16) (h : l ≠ l') : Disjoint (rCell l).set (rCell l').set := by
  rw [Finset.disjoint_left]; intro y hy hy'
  have h1 := Rect.mem_set_unit.mp hy 1; have h2 := Rect.mem_set_unit.mp hy' 1
  simp at h1 h2; exact h (Fin.ext (by omega))
/-- Two slabs are apart. -/
theorem rSlab_disjoint (l l' : Fin 16) (h : l ≠ l') : Disjoint (rSlab l).set (rSlab l').set := by
  rw [Finset.disjoint_left]; intro y hy hy'
  have h1 := Rect.mem_set_unit.mp hy 0; have h2 := Rect.mem_set_unit.mp hy' 0
  simp at h1 h2; exact h (Fin.ext (by omega))

/-! ## The stages -/

variable {F : FTy → Type} [FloatOps F]

/-- Column `l` of the projections. -/
def colOf (l : Fin 16) (v : FVec F S512x16 .f32) : FVec F S512x1 .f32 := extractStridedSlice S512x1 ![0, l.val] v ⟨rfl, fun a => by
  have := l.isLt; match a with | 0 => show 0 + 512 ≤ 512; omega | 1 => show l.val + 1 ≤ 16; omega⟩
/-- Row `l` of the transposed projections. -/
def rowOf (l : Fin 16) (v : FVec F S16x512 .f32) : FVec F S1x512 .f32 := extractStridedSlice S1x512 ![l.val, 0] v ⟨rfl, fun a => by
  have := l.isLt; match a with | 0 => show l.val + 1 ≤ 16; omega | 1 => show 0 + 512 ≤ 512; omega⟩
/-- Entry `l` of the weights. -/
def cellOf16 (l : Fin 16) (v : FVec F S1x16 .f32) : FVec F S1x1 .f32 := extractStridedSlice S1x1 ![0, l.val] v ⟨rfl, fun a => by
  have := l.isLt; match a with | 0 => show 0 + 1 ≤ 1; omega | 1 => show l.val + 1 ≤ 16; omega⟩

/-- One where the column's entry comes before the row's in the stable order, zero elsewhere. -/
def beforeOp (col : FVec F S512x1 .f32) (row : FVec F S1x512 .f32) : IVec S512x512 32 :=
  select (ori (cmpf .olt (broadcastTo S512x512 col broadcasts_S512x1_S512x512) (broadcastTo S512x512 row broadcasts_S1x512_S512x512))
    (andi (cmpf .oeq (broadcastTo S512x512 col broadcasts_S512x1_S512x512) (broadcastTo S512x512 row broadcasts_S1x512_S512x512)) k0_pay104))
    (broadcast S512x512 1#32) (broadcast S512x512 0#32)
/-- The rank of every entry, as a row: how many come before it. -/
def rankOp (col : FVec F S512x1 .f32) (row : FVec F S1x512 .f32) : IVec S1x512 32 :=
  shapeCast S1x512 (multiReductionI .add [0] S512 (beforeOp col row) 0#32 reduces_S512x512_S512 rfl) shapeCasts_S512_S1x512
/-- The rank row as it is stored. -/
def rankStore (col : FVec F S512x1 .f32) (row : FVec F S1x512 .f32) : IVec S1x512 32 :=
  shapeCast S1x512 (rankOp col row) shapeCasts_S1x512_S1x512
/-- The rank of every entry, as a column: 511 less how many come after it. -/
def rankrOp (col : FVec F S512x1 .f32) (row : FVec F S1x512 .f32) : IVec S512x1 32 :=
  shapeCast S512x1 (subi (broadcast S512x1 511#32) (shapeCast S512x1 (multiReductionI .add [1] S512 (beforeOp col row) 0#32 reduces_S512x512_S512_2 rfl) shapeCasts_S512_S512x1)) shapeCasts_S512x1_S512x1

/-- The soft sort of the reference's slice. -/
def softROp (row : FVec F S1x512 .f32) (rank : IVec S1x512 32) : FVec F S1x512x512 .f32 :=
  have v1 : IVec S512x512 32 := iota .tc S512x512 32 [0] iota_S512x512_d0_w32
  have s : IVec S512x512 1 := cmpi .eq (broadcastTo S512x512 rank broadcasts_S1x512_S512x512) (subi (broadcast S512x512 511#32) v1)
  have sel : FVec F S512x512 .f32 := select s (broadcastTo S512x512 (shapeCast S1x512 row shapeCasts_S1x512_S1x512) broadcasts_S1x512_S512x512) (broadcast S512x512 (Scalar.ofBits .f32 0x00000000#32))
  have srt : FVec F S512x1 .f32 := shapeCast S512x1 (multiReduction .add [1] S512 sel 0x00000000#32 reduces_S512x512_S512_2 (.inl rfl) rfl) shapeCasts_S512_S512x1
  have d : FVec F S512x512 .f32 := subf (broadcastTo S512x512 row broadcasts_S1x512_S512x512) (broadcastTo S512x512 srt broadcasts_S512x1_S512x512)
  have q : FVec F S512x512 .f32 := mulf d d
  have mn : FVec F S512x1 .f32 := shapeCast S512x1 (multiReduction .minimumf [1] S512 q 0x7F800000#32 reduces_S512x512_S512_2 (.inl rfl) rfl) shapeCasts_S512_S512x1
  have e : FVec F S512x512 .f32 := exp (subf (broadcastTo S512x512 mn broadcasts_S512x1_S512x512) q)
  have t : FVec F S512x1 .f32 := shapeCast S512x1 (multiReduction .add [1] S512 e 0x00000000#32 reduces_S512x512_S512_2 (.inl rfl) rfl) shapeCasts_S512_S512x1
  shapeCast S1x512x512 (divf e (broadcastTo S512x512 t broadcasts_S512x1_S512x512)) shapeCasts_S512x512_S1x512x512

/-- The soft sort of a block's slice, in the narrow format. -/
def softXOp (row : FVec F S1x512 .f32) (rank : IVec S1x512 32) : FVec F S1x512x512 .bf16 :=
  have v1 : IVec S512x512 32 := iota .tc S512x512 32 [0] iota_S512x512_d0_w32
  have s : IVec S512x512 1 := cmpi .eq (broadcastTo S512x512 rank broadcasts_S1x512_S512x512) (subi (broadcast S512x512 511#32) v1)
  have sel : FVec F S512x512 .f32 := select s (broadcastTo S512x512 (shapeCast S1x512 row shapeCasts_S1x512_S1x512) broadcasts_S1x512_S512x512) (broadcast S512x512 (Scalar.ofBits .f32 0x00000000#32))
  have srt : FVec F S512x1 .f32 := shapeCast S512x1 (multiReduction .add [1] S512 sel 0x00000000#32 reduces_S512x512_S512_2 (.inl rfl) rfl) shapeCasts_S512_S512x1
  have d : FVec F S512x512 .bf16 := subf (broadcastTo S512x512 (truncf .bf16 row bitsLt_bf16_f32) broadcasts_S1x512_S512x512) (broadcastTo S512x512 (truncf .bf16 srt bitsLt_bf16_f32) broadcasts_S512x1_S512x512)
  have q : FVec F S512x512 .bf16 := mulf d d
  have mn : FVec F S512x1 .bf16 := shapeCast S512x1 (multiReduction .minimumf [1] S512 q 0x7F80#16 reduces_S512x512_S512_2 (.inr rfl) rfl) shapeCasts_S512_S512x1
  have e : FVec F S512x512 .f32 := extf .f32 (exp (subf (broadcastTo S512x512 mn broadcasts_S512x1_S512x512) q)) bitsLt_bf16_f32
  have t : FVec F S512x1 .f32 := shapeCast S512x1 (multiReduction .add [1] S512 e 0x00000000#32 reduces_S512x512_S512_2 (.inl rfl) rfl) shapeCasts_S512_S512x1
  shapeCast S1x512x512 (truncf .bf16 (divf e (broadcastTo S512x512 t broadcasts_S512x1_S512x512)) bitsLt_bf16_f32) shapeCasts_S512x512_S1x512x512

/-- The sum of all entries of a 512×512 array times a constant, as one cell. -/
def sumCell (v : FVec F S512x512 .f32) (k : BitVec 32) : FVec F S1x1 .f32 :=
  shapeCast S1x1 (mulf (shapeCast S1x1 (multiReduction .add [0] S1 (shapeCast S512x1 (multiReduction .add [1] S512 v 0x00000000#32 reduces_S512x512_S512_2 (.inl rfl) rfl) shapeCasts_S512_S512x1) 0x00000000#32 reduces_S512x1_S1 (.inl rfl) rfl) shapeCasts_S1_S1x1)
    (broadcast S1x1 (Scalar.ofBits .f32 k))) shapeCasts_S1x1_S1x1

/-- Where the rank column and the rank row agree. -/
def matchOp (rr : IVec S512x1 32) (rx : IVec S1x512 32) : IVec S512x512 1 :=
  cmpi .eq (broadcastTo S512x512 rr broadcasts_S512x1_S512x512) (broadcastTo S512x512 rx broadcasts_S1x512_S512x512)
/-- The exact distance of a slice: the costs of the matched pairs summed, over 512. -/
def edOp (cost : FVec F S512x512 .f32) (rr : IVec S512x1 32) (rx : IVec S1x512 32) : FVec F S1x1 .f32 :=
  sumCell (select (matchOp rr rx) cost (broadcast S512x512 (Scalar.ofBits .f32 0x00000000#32))) 0x3B000000#32
/-- The soft distance of a slice in one block: its share of the mean over the blocks. -/
def distOp (costb : FVec F S512x512 .bf16) (sx : FVec F S1x512x512 .bf16) (sr : FVec F S1x512x512 .f32) : FVec F S1x1 .f32 :=
  sumCell (mulf (shapeCast S512x512 sr shapeCasts_S1x512x512_S512x512)
    (matmul dot_S512x512_S512x512_S512x512_1_0_0_1_n_n none costb (shapeCast S512x512 sx shapeCasts_S1x512x512_S512x512) (constant S512x512 .f32 0x00000000#32))) 0x39800000#32
/-- A slice's term of the expected plan: its weight at the matched pairs. -/
def termOp (rr : IVec S512x1 32) (rx : IVec S1x512 32) (w : FVec F S1x1 .f32) : FVec F S512x512 .f32 :=
  select (matchOp rr rx) (broadcastTo S512x512 (shapeCast S1x1 w shapeCasts_S1x1_S1x1) broadcasts_S1x1_S512x512) (broadcast S512x512 (Scalar.ofBits .f32 0x00000000#32))
/-- Every fourth term from `a` on, added up. -/
def accOp (T : Fin 16 → FVec F S512x512 .f32) (a : Fin 4) : FVec F S512x512 .f32 :=
  addf (addf (addf (T ⟨a.val, by omega⟩) (T ⟨a.val + 4, by omega⟩)) (T ⟨a.val + 8, by omega⟩)) (T ⟨a.val + 12, by omega⟩)
/-- The expected plan before its division by 512: the sixteen terms in four accumulators. -/
def planOp (T : Fin 16 → FVec F S512x512 .f32) : FVec F S512x512 .f32 :=
  addf (addf (accOp T 0) (accOp T 1)) (addf (accOp T 2) (accOp T 3))

/-! ## The prologue -/

/-- The scratch the first point fills, from the weights and the reference: the directions, transposed. -/
def proW (x2 : Vec F S16x128 .f32) : FVec F S128x16 .f32 := k0_pay4 x2
/-- The reference's projections. -/
def proR (x1 : Vec F S512x128 .f32) (x2 : Vec F S16x128 .f32) : FVec F S512x16 .f32 := k0_pay5 x1 (proW x2)
/-- The reference's rank column of slice `l`. -/
def proRankr (x1 : Vec F S512x128 .f32) (x2 : Vec F S16x128 .f32) (l : Fin 16) : IVec S512x1 32 :=
  rankrOp (colOf l (proR x1 x2)) (rowOf l (k0_pay6 x1 x2))
/-- The reference's soft sort of slice `l`. -/
def proSoft (x1 : Vec F S512x128 .f32) (x2 : Vec F S16x128 .f32) (l : Fin 16) : FVec F S1x512x512 .f32 :=
  softROp (rowOf l (k0_pay6 x1 x2)) (rankOp (colOf l (proR x1 x2)) (rowOf l (k0_pay6 x1 x2)))

/-! ## The body of a point, from the block, the reference and the carried scratch -/

variable (x0 : Vec F S1x512x128 .f32) (x1 : Vec F S512x128 .f32) (xs0 : Vec F S128x16 .f32)
  (rr : Fin 16 → IVec S512x1 32) (sr : Fin 16 → FVec F S1x512x512 .f32)

/-- The block's rank row of slice `l`. -/
def mRank (l : Fin 16) : IVec S1x512 32 := rankStore (colOf l (k0_pay108 (k0_pay105 x0) xs0)) (rowOf l (k0_pay109 (k0_pay105 x0) xs0))
/-- The exact distance of slice `l`. -/
def mEd (l : Fin 16) : FVec F S1x1 .f32 := edOp (k0_pay106 x1 x0) (rr l) (mRank x0 xs0 l)
/-- The block's soft sort of slice `l`. -/
def mSoft (l : Fin 16) : FVec F S1x512x512 .bf16 := softXOp (rowOf l (k0_pay109 (k0_pay105 x0) xs0)) (mRank x0 xs0 l)
/-- The soft distance of slice `l`. -/
def mDist (l : Fin 16) : FVec F S1x1 .f32 := distOp (k0_pay107 (k0_pay106 x1 x0)) (mSoft x0 xs0 l) (sr l)
/-- Sixteen cells as a row. -/
def cellsRow {e : EltTy} {Val : EltTy → Type} (P : Fin 16 → S1x1.Idx → Val e) : S1x16.Idx → Val e := fun j => P (j 1) (ix2 0 0)
/-- The weights of the slices. -/
def mW : FVec F S1x16 .f32 := k0_pay227 (k0_pay226 (cellsRow (e := .f32) (Val := Elt F) (mEd x0 x1 xs0 rr)))
/-- The expected plan, times 512. -/
def mPlan : FVec F S512x512 .f32 := planOp fun l => termOp (rr l) (mRank x0 xs0 l) (cellOf16 l (mW x0 x1 xs0 rr))
/-- The embedding block. -/
def mEmb : FVec F S1x512x128 .f32 := k0_pay2 x1 (k0_pay105 x0) (k0_pay1 (mPlan x0 x1 xs0 rr))
/-- The row of soft distances. -/
def mDl : FVec F S1x16 .f32 := cellsRow (e := .f32) (Val := Elt F) (mDist x0 x1 xs0 sr)

/-- The row of sixteen cells read back after the stores of all of them. -/
theorem readCov_cells {e : EltTy} {Val : EltTy → Type} [∀ e, Nonempty (Val e)] {sig : RefSig} {κ : Kind} {sp : Space} (v : View sig κ sp S8x16 e)
    (P : Fin 16 → S1x1.Idx → Val e) (inb) :
    v.readCov (stack rCell P 16 le_rfl) (Rect.unit (s := S8x16) ![0, 0] S1x16.size inb).toLoadRect = cellsRow P := by
  rw [View.readCov_eq_canon']
  funext j
  rw [cellsRow, ← canon_stack rCell P rCell_disjoint (j 1) (ix2 0 0) 16 le_rfl (j 1).isLt]
  congr 1
  funext a
  apply Fin.ext
  have h0 : (j 0).val < 1 := (j 0).isLt
  match a with
  | 0 => show 0 + 1 * (j 0).val = 0 + 1 * 0; omega
  | 1 => show 0 + 1 * (j 1).val = (j 1).val + 1 * 0; omega

end Cert.KernelIdeal.Hand

end
-- ==== Proof.Run.ReadK.lean ====
module
public import proofs.«01_k».proof.Proof.Run.Spec
public import proofs.«01_k».proof.Proof.Run.Stages
public import Idealize.ShloMosaic.Lib.IndicatorCount
public import Idealize.ShloMosaic.Lib.IdealHost

/-! The kernel's stages at the ideal instance, entry by entry. -/

@[expose] public section

set_option maxRecDepth 16384

noncomputable section

namespace Cert.KernelIdeal.Hand

open Cert.KernelIdeal.Gen Cert.Spec Cert.Ranks
open Idealize.ShloMosaic Idealize.ShloMosaic.TcCoe
open scoped BigOperators

/-- Adding ones over a filter counts it. -/
theorem fold_select_eq_card (p : Fin 512 → BitVec 1) (q : Fin 512 → Prop) [DecidablePred q] (h : ∀ k, p k = 1#1 ↔ q k) :
    Finset.univ.fold IntOp.addi 0#32 (fun k => Scalar.select (p k) 1#32 0#32) = BitVec.ofNat 32 (Finset.univ.filter q).card := by
  have e : (fun k => Scalar.select (p k) 1#32 0#32) = fun k => (p k).setWidth 32 := funext fun k => by
    generalize p k = b
    revert b
    decide
  rw [e, IndicatorCount.fold_addi_setWidth_eq_card]
  congr 2
  ext k
  simp [h]

/-- Small numbers as words compare, signed, as numbers. -/
theorem slt_small {a b : ℕ} (ha : a < 512) (hb : b < 512) :
    IntOp.cmpi .slt (BitVec.ofNat 32 a) (BitVec.ofNat 32 b) = 1#1 ↔ a < b := by
  have h : ∀ c, c < 512 → (BitVec.ofNat 32 c).toInt = c := fun c hc => by
    rw [BitVec.toInt_eq_toNat_of_lt] <;> rw [BitVec.toNat_ofNat] <;> omega
  show BitVec.ofBool ((BitVec.ofNat 32 a).slt (BitVec.ofNat 32 b)) = 1#1 ↔ _
  rw [BitVec.slt, h a ha, h b hb]
  by_cases hl : a < b <;> simp [hl]

/-- Small numbers as words are equal only as numbers. -/
theorem eq_small {a b : ℕ} (ha : a < 512) (hb : b < 512) :
    IntOp.cmpi .eq (BitVec.ofNat 32 a) (BitVec.ofNat 32 b) = 1#1 ↔ a = b := by
  show BitVec.ofBool (BitVec.ofNat 32 a == BitVec.ofNat 32 b) = 1#1 ↔ _
  have : BitVec.ofNat 32 a = BitVec.ofNat 32 b ↔ a = b := by
    constructor
    · intro h
      have := congrArg BitVec.toNat h
      rw [BitVec.toNat_ofNat, BitVec.toNat_ofNat] at this
      omega
    · exact congrArg _
  by_cases hl : a = b
  · simp [hl]
  · have h' : BitVec.ofNat 32 a ≠ BitVec.ofNat 32 b := fun h => hl (this.1 h)
    rw [beq_eq_false_iff_ne.2 h']
    simp [hl]

/-- The bit of a proposition is one when the proposition holds. -/
theorem ofBool_eq_one (p : Prop) [Decidable p] : BitVec.ofBool (decide p) = 1#1 ↔ p := by
  by_cases h : p <;> simp [h]

/-- An `or` of bits is one when either is. -/
theorem ori_eq_one (a b : BitVec 1) : IntOp.ori a b = 1#1 ↔ a = 1#1 ∨ b = 1#1 := by
  revert a b; decide

/-- An `and` of bits is one when both are. -/
theorem andi_eq_one (a b : BitVec 1) : IntOp.andi a b = 1#1 ↔ a = 1#1 ∧ b = 1#1 := by
  revert a b; decide

/-- A select on a bit is the choice on what the bit says. -/
theorem select_eq_ite {α : Type} (b : BitVec 1) (q : Prop) [Decidable q] (h : b = 1#1 ↔ q) (x y : α) :
    Scalar.select b x y = if q then x else y := by
  by_cases hq : q
  · rw [if_pos hq, h.2 hq]; rfl
  · rw [if_neg hq]
    have : b = 0#1 := by
      have : b ≠ 1#1 := fun hb => hq (h.1 hb)
      clear h
      revert this; revert b; decide
    rw [this]; rfl

/-- A word less than 511 taken from 511. -/
theorem sub_small {a b : ℕ} (h : a + b = 511) : IntOp.subi 511#32 (BitVec.ofNat 32 a) = BitVec.ofNat 32 b := by
  show 511#32 - BitVec.ofNat 32 a = _
  apply BitVec.eq_of_toNat_eq
  simp only [BitVec.toNat_sub, BitVec.toNat_ofNat]
  omega

/-- The kernel's test that one entry comes before another. -/
theorem before_iff (s : Fin 512 → EReal) (x y : Fin 512) (a b : EReal) (ha : a = s x) (hb : b = s y) :
    IntOp.ori (BitVec.ofBool (decide (a < b))) (IntOp.andi (BitVec.ofBool (decide (a = b)))
      (IntOp.cmpi .slt (BitVec.ofNat 32 x.val) (BitVec.ofNat 32 y.val))) = 1#1 ↔ Bef s x y := by
  rw [ori_eq_one, andi_eq_one, ofBool_eq_one, ofBool_eq_one, slt_small x.isLt y.isLt, ha, hb]
  rfl

/-- The word of infinity. -/
theorem ofBits_inf : Ideal.ofBits .f32 0x7F800000#32 = ⊤ := by simp [Ideal.ofBits, Ideal.ieee]
/-- The narrow word of infinity. -/
theorem ofBits_inf_narrow : Ideal.ofBits .bf16 0x7F80#16 = ⊤ := by simp [Ideal.ofBits, Ideal.ieee]
/-- The word of minus infinity. -/
theorem ofBits_neg_inf : Ideal.ofBits .f32 0xFF800000#32 = ⊥ := by simp [Ideal.ofBits, Ideal.ieee]

/-! ## The directions, the projections and the costs -/

/-- The directions, entry by entry. -/
theorem k3_at (v : Vec Ideal S16x128 .f32) (l : Fin 16) (d : Fin 128) :
    k0_pay3 v (ix2 l d) = dirW (fun l d => v (ix2 l d)) l d := by
  pointwise [k0_pay3]
  rfl

/-- The kept directions, entry by entry. -/
theorem proW_at (v : Vec Ideal S16x128 .f32) (l : Fin 16) (d : Fin 128) :
    proW v (ix2 d l) = dirW (fun l d => v (ix2 l d)) l d := by
  rw [← k3_at]
  pointwise [proW, k0_pay4]

/-- The costs, entry by entry. -/
theorem cost_at (x1 : Vec Ideal S512x128 .f32) (x0 : Vec Ideal S1x512x128 .f32) (i n : Fin 512) :
    k0_pay106 x1 x0 (ix2 i n) = cost (fun i d => x1 (ix2 i d)) (fun n d => x0 (ix3 0 n d)) i n := by
  pointwise [k0_pay106, k0_pay105]
  rfl

/-- The costs kept narrow are the costs. -/
theorem k107_at (v : Vec Ideal S512x512 .f32) (i n : Fin 512) : k0_pay107 v (ix2 i n) = v (ix2 i n) := by
  pointwise [k0_pay107]

/-- The batch element, entry by entry. -/
theorem k105_at (x0 : Vec Ideal S1x512x128 .f32) (n : Fin 512) (d : Fin 128) : k0_pay105 x0 (ix2 n d) = x0 (ix3 0 n d) := by
  pointwise [k0_pay105]

/-- The projections of the points as a column. -/
theorem col_at (l : Fin 16) (n : Fin 512) (x : FVec Ideal S512x128 .f32) (xs : Vec Ideal S128x16 .f32) :
    colOf l (k0_pay108 x xs) (ix2 n 0) = ∑ d, x (ix2 n d) * xs (ix2 d l) := by
  pointwise [colOf, k0_pay108]

/-- The projections of the points as a row. -/
theorem row_at (l : Fin 16) (n : Fin 512) (x : FVec Ideal S512x128 .f32) (xs : Vec Ideal S128x16 .f32) :
    rowOf l (k0_pay109 x xs) (ix2 0 n) = ∑ d, x (ix2 n d) * xs (ix2 d l) := by
  pointwise [rowOf, k0_pay109, k0_pay108]

/-- The projections of the reference as a column. -/
theorem colR_at (l : Fin 16) (n : Fin 512) (x : Vec Ideal S512x128 .f32) (v : Vec Ideal S16x128 .f32) :
    colOf l (proR x v) (ix2 n 0) = proj (fun n d => x (ix2 n d)) (fun l d => v (ix2 l d)) l n := by
  pointwise [colOf, proR, k0_pay5]
  exact Finset.sum_congr rfl fun d _ => congrArg _ (proW_at v l d)

/-- The projections of the reference as a row. -/
theorem rowR_at (l : Fin 16) (n : Fin 512) (x : Vec Ideal S512x128 .f32) (v : Vec Ideal S16x128 .f32) :
    rowOf l (k0_pay6 x v) (ix2 0 n) = proj (fun n d => x (ix2 n d)) (fun l d => v (ix2 l d)) l n := by
  pointwise [rowOf, k0_pay6]
  exact Finset.sum_congr rfl fun d _ => by rw [k3_at, mul_comm]

/-! ## The ranks -/

/-- The ranks counted down the columns. -/
theorem rankOp_at (col : FVec Ideal S512x1 .f32) (row : FVec Ideal S1x512 .f32) (s : Fin 512 → EReal)
    (hc : ∀ i, col (ix2 i 0) = s i) (hr : ∀ i, row (ix2 0 i) = s i) (n : Fin 512) :
    rankOp col row (ix2 0 n) = BitVec.ofNat 32 (rk s n) := by
  pointwise [rankOp, beforeOp, k0_pay104]
  exact fold_select_eq_card _ (fun k => Bef s k n) fun k => before_iff s k n _ _ (hc k) (hr n)

/-- The ranks as they are stored. -/
theorem rankStore_at (col : FVec Ideal S512x1 .f32) (row : FVec Ideal S1x512 .f32) (s : Fin 512 → EReal)
    (hc : ∀ i, col (ix2 i 0) = s i) (hr : ∀ i, row (ix2 0 i) = s i) (n : Fin 512) :
    rankStore col row (ix2 0 n) = BitVec.ofNat 32 (rk s n) := by
  rw [← rankOp_at col row s hc hr]
  pointwise [rankStore]

/-- The ranks counted along the rows. -/
theorem rankrOp_at (col : FVec Ideal S512x1 .f32) (row : FVec Ideal S1x512 .f32) (s : Fin 512 → EReal)
    (hc : ∀ i, col (ix2 i 0) = s i) (hr : ∀ i, row (ix2 0 i) = s i) (n : Fin 512) :
    rankrOp col row (ix2 n 0) = BitVec.ofNat 32 (rk s n) := by
  pointwise [rankrOp, beforeOp, k0_pay104]
  have e := fold_select_eq_card _ (fun k => Bef s n k) fun k => before_iff s n k _ _ (hc n) (hr k)
  refine (congrArg (IntOp.subi 511#32) e).trans ?_
  exact sub_small (after_add_rk s n)

/-! ## The soft sorts -/

/-- The value the rank selects for place `i`. -/
theorem pick_at (s : Fin 512 → EReal) (i : Fin 512) :
    (∑ x, if rk s x = 511 - i.val then s x else 0) = desc s i := by
  have h : ∀ x, rk s x = 511 - i.val ↔ x = at_ s i.rev := fun x => by
    rw [eq_comm (a := x), eq_at_iff, Fin.val_rev]
    omega
  simp only [h, Finset.sum_ite_eq', Finset.mem_univ, if_true]
  rfl

/-- The mask of the `i`-th greatest value picks the place of that rank. -/
theorem pick_iff (s : Fin 512 → EReal) (i x : Fin 512) (w : BitVec 32) (hw : w = BitVec.ofNat 32 (rk s x)) :
    IntOp.cmpi .eq w (IntOp.subi 511#32 (BitVec.ofNat 32 i.val)) = 1#1 ↔ rk s x = 511 - i.val := by
  rw [sub_small (b := 511 - i.val) (by have := i.isLt; omega), hw]
  exact eq_small (rk_lt s x) (by omega)

/-- The sum over the mask is the value picked. -/
theorem selected (row : Fin 512 → EReal) (rank : Fin 512 → BitVec 32) (s : Fin 512 → EReal)
    (hr : ∀ i, row i = s i) (hk : ∀ i, rank i = BitVec.ofNat 32 (rk s i)) (i : Fin 512) :
    (∑ x, Scalar.select (IntOp.cmpi .eq (rank x) (IntOp.subi 511#32 (BitVec.ofNat 32 i.val))) (row x) 0) = desc s i := by
  rw [← pick_at]
  exact Finset.sum_congr rfl fun x _ => by rw [select_eq_ite _ _ (pick_iff s i x _ (hk x)), hr]

/-- The soft sort of the reference, entry by entry. -/
theorem softROp_at (row : FVec Ideal S1x512 .f32) (rank : IVec S1x512 32) (s : Fin 512 → EReal)
    (hr : ∀ i, row (ix2 0 i) = s i) (hk : ∀ i, rank (ix2 0 i) = BitVec.ofNat 32 (rk s i)) (i n : Fin 512) :
    softROp row rank (ix3 0 i n) = soft s i n := by
  pointwise [softROp]
  rw [selected (fun x => row (ix2 0 x)) (fun x => rank (ix2 0 x)) s hr hk i, ofBits_inf]
  simp only [hr]
  rfl

/-- The soft sort of the points, entry by entry. -/
theorem softXOp_at (row : FVec Ideal S1x512 .f32) (rank : IVec S1x512 32) (s : Fin 512 → EReal)
    (hr : ∀ i, row (ix2 0 i) = s i) (hk : ∀ i, rank (ix2 0 i) = BitVec.ofNat 32 (rk s i)) (i n : Fin 512) :
    softXOp row rank (ix3 0 i n) = soft s i n := by
  pointwise [softXOp]
  rw [selected (fun x => row (ix2 0 x)) (fun x => rank (ix2 0 x)) s hr hk i, ofBits_inf_narrow]
  simp only [hr]
  rfl

/-! ## The sums of a slice and the expected plan -/

/-- Two rank words are equal when the ranks are. -/
theorem match_iff (sr sx : Fin 512 → EReal) (i n : Fin 512) (a b : BitVec 32) (ha : a = BitVec.ofNat 32 (rk sr i))
    (hb : b = BitVec.ofNat 32 (rk sx n)) : IntOp.cmpi .eq a b = 1#1 ↔ rk sr i = rk sx n := by
  rw [ha, hb]
  exact eq_small (rk_lt _ _) (rk_lt _ _)

/-- The cost of matching equal ranks. -/
theorem edOp_at (c : FVec Ideal S512x512 .f32) (rr : IVec S512x1 32) (rx : IVec S1x512 32) (sr sx : Fin 512 → EReal)
    (hr : ∀ i, rr (ix2 i 0) = BitVec.ofNat 32 (rk sr i)) (hx : ∀ i, rx (ix2 0 i) = BitVec.ofNat 32 (rk sx i)) :
    edOp c rr rx (ix2 0 0) = ed (fun i n => c (ix2 i n)) sr sx := by
  pointwise [edOp, sumCell, matchOp]
  exact congrArg (· * c512) (Finset.sum_congr rfl fun i _ => Finset.sum_congr rfl fun n _ =>
    select_eq_ite _ _ (match_iff sr sx i n _ _ (hr i) (hx n)) _ _)

/-- The soft distance of one slice. -/
theorem distOp_at (c : FVec Ideal S512x512 .bf16) (sx : FVec Ideal S1x512x512 .bf16) (sr : FVec Ideal S1x512x512 .f32) :
    distOp c sx sr (ix2 0 0) = (∑ i, ∑ k, sr (ix3 0 i k) * ∑ n, c (ix2 i n) * sx (ix3 0 n k))
      * Ideal.ofBits .f32 0x39800000#32 := by
  pointwise [distOp, sumCell]

/-- A slice's share of the expected plan. -/
theorem termOp_at (rr : IVec S512x1 32) (rx : IVec S1x512 32) (w : FVec Ideal S1x1 .f32) (sr sx : Fin 512 → EReal)
    (hr : ∀ i, rr (ix2 i 0) = BitVec.ofNat 32 (rk sr i)) (hx : ∀ i, rx (ix2 0 i) = BitVec.ofNat 32 (rk sx i)) (i n : Fin 512) :
    termOp rr rx w (ix2 i n) = if rk sr i = rk sx n then w (ix2 0 0) else 0 := by
  pointwise [termOp, matchOp]
  exact select_eq_ite _ _ (match_iff sr sx i n _ _ (hr i) (hx n)) _ _

/-- The four accumulators hold the sixteen terms. -/
theorem sum16 (f : Fin 16 → EReal) : f 0 + f 4 + f 8 + f 12 + (f 1 + f 5 + f 9 + f 13)
    + (f 2 + f 6 + f 10 + f 14 + (f 3 + f 7 + f 11 + f 15)) = ∑ l, f l := by
  simp only [Fin.sum_univ_succ, Fin.sum_univ_zero, add_zero]
  show _ = f 0 + (f 1 + (f 2 + (f 3 + (f 4 + (f 5 + (f 6 + (f 7 + (f 8 + (f 9 + (f 10 + (f 11
    + (f 12 + (f 13 + (f 14 + f 15))))))))))))))
  ac_rfl

/-- The expected plan is the sum of the shares. -/
theorem planOp_at (T : Fin 16 → FVec Ideal S512x512 .f32) (i n : Fin 512) : planOp T (ix2 i n) = ∑ l, T l (ix2 i n) := by
  pointwise [planOp, accOp]
  exact sum16 fun l => T l (ix2 i n)

/-- The cell of a slice. -/
theorem cell_at (w : FVec Ideal S1x16 .f32) (l : Fin 16) : cellOf16 l w (ix2 0 0) = w (ix2 0 l) := by
  pointwise [cellOf16]

/-- Dividing by one. -/
theorem div_one' (x : EReal) : Ideal.div x 1 = x := by
  simp [Ideal.div]

/-- The weights of the slices, entry by entry. -/
theorem wt_at (v : Vec Ideal S1x16 .f32) (l : Fin 16) :
    k0_pay227 (k0_pay226 v) (ix2 0 l) = wt (fun l => v (ix2 0 l)) l := by
  pointwise [k0_pay227, k0_pay226]
  simp only [div_one', zero_sub, ofBits_neg_inf]
  rfl

/-- The embeddings, entry by entry. -/
theorem emb_at (x1 : Vec Ideal S512x128 .f32) (x : FVec Ideal S512x128 .f32) (E : FVec Ideal S512x512 .f32) (i : Fin 512) (d : Fin 128) :
    k0_pay2 x1 x (k0_pay1 E) (ix3 0 i d) = emb (fun i n => E (ix2 i n)) (fun i d => x1 (ix2 i d)) (fun n d => x (ix2 n d)) i d := by
  pointwise [k0_pay2, k0_pay1]
  rfl

end Cert.KernelIdeal.Hand
end
-- ==== Proof.Run.RunB.lean ====
module

public import proofs.«01_k».proof.Proof.Run.Setup

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2200000 in
/-- The body's run at the points after the first: from the staged input blocks, the dists window at `x4` and the carried
    scratch at `xs0`, `xs1`, `xs2`, it ends with the inputs and the carried scratch as they were, and with the pieces `L3`
    written into the embedding block and `L4` into the dists window. The pieces are what the symbolic run finds. -/
noncomputable def runB (c : Dev nD) (i : grid0.Coords) (arg1 : Memref sig .tc .vmem S1x512x128 .f32) (harg1 : arg1.IsWhole) (arg2 : Memref sig .tc .vmem S512x128 .f32) (harg2 : arg2.IsWhole) (arg3 : Memref sig .tc .vmem S16x128 .f32) (harg3 : arg3.IsWhole) (arg4 : Memref sig .tc .vmem S1x512x128 .f32) (harg4 : arg4.IsWhole) (arg5 : Memref sig .tc .vmem S8x16 .f32) (harg5 : arg5.IsWhole) (arg6 : Memref sig .tc .vmem S128x16 .f32) (harg6 : arg6.IsWhole) (arg7 : Memref sig .tc .vmem S512x16 .i32) (harg7 : arg7.IsWhole) (arg8 : Memref sig .tc .vmem S16x512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S16x512 .i32) (harg12 : arg12.IsWhole) (arg13 : Memref sig .tc .vmem S8x16 .f32) (harg13 : arg13.IsWhole) (arg14 : Memref sig .tc .vmem S8x16 .f32) (harg14 : arg14.IsWhole) (arg15 : Memref sig .tc .vmem S16x512x512 .bf16) (harg15 : arg15.IsWhole) (hc0 : ¬cond0_0 i)
    (x0 : Vec F S1x512x128 .f32) (x1 : Vec F S512x128 .f32) (x2 : Vec F S16x128 .f32) (x4 : Vec F S8x16 .f32) (xs0 : Vec F S128x16 .f32) (xs1 : Vec F S512x16 .i32) (xs2 : Vec F S16x512x512 .f32) :
    Σ' (L3 : List (View.Piece (Elt F) S1x512x128 .f32)), { L4 : List (View.Piece (Elt F) S8x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare xs0 ∗ owns (c : Thread nD τ) arg7 fullShare xs1 ∗ owns (c : Thread nD τ) arg8 fullShare xs2 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread x4) L4) ∗ owns (c : Thread nD τ) arg6 fullShare xs0 ∗ owns (c : Thread nD τ) arg7 fullShare xs1 ∗ owns (c : Thread nD τ) arg8 fullShare xs2 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_kernel_eq_skeleton]; unfold cc0__fused_kernel_skel
    simp only [k0_part57_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg5.eq_unread hf4; obtain rfl := harg6.eq_unread hfs0; obtain rfl := harg7.eq_unread hfs1; obtain rfl := harg8.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexact H4
    isplitl [HS0]
    · iexists _; isplitr; · ipureintro; exact harg6.read_unread _
      iexact HS0
    isplitl [HS1]
    · iexists _; isplitr; · ipureintro; exact harg7.read_unread _
      iexact HS1
    isplitl [HS2]
    · iexists _; isplitr; · ipureintro; exact harg8.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.KernelIdeal.Hand

end
-- ==== Proof.Run.RunA.lean ====
module

public import proofs.«01_k».proof.Proof.Run.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3072000 in
/-- The body's run at the first point, whose prologue fills the carried scratch: from the staged input blocks and the
    dists window at `x4`, it ends with the inputs as they were, the pieces `LS0`, `LS1`, `LS2` written into the carried
    scratch, `L3` into the embedding block and `L4` into the dists window. The pieces are what the symbolic run finds. -/
noncomputable def runA (c : Dev nD) (i : grid0.Coords) (arg1 : Memref sig .tc .vmem S1x512x128 .f32) (harg1 : arg1.IsWhole) (arg2 : Memref sig .tc .vmem S512x128 .f32) (harg2 : arg2.IsWhole) (arg3 : Memref sig .tc .vmem S16x128 .f32) (harg3 : arg3.IsWhole) (arg4 : Memref sig .tc .vmem S1x512x128 .f32) (harg4 : arg4.IsWhole) (arg5 : Memref sig .tc .vmem S8x16 .f32) (harg5 : arg5.IsWhole) (arg6 : Memref sig .tc .vmem S128x16 .f32) (harg6 : arg6.IsWhole) (arg7 : Memref sig .tc .vmem S512x16 .i32) (harg7 : arg7.IsWhole) (arg8 : Memref sig .tc .vmem S16x512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S16x512 .i32) (harg12 : arg12.IsWhole) (arg13 : Memref sig .tc .vmem S8x16 .f32) (harg13 : arg13.IsWhole) (arg14 : Memref sig .tc .vmem S8x16 .f32) (harg14 : arg14.IsWhole) (arg15 : Memref sig .tc .vmem S16x512x512 .bf16) (harg15 : arg15.IsWhole) (hc0 : cond0_0 i)
    (x0 : Vec F S1x512x128 .f32) (x1 : Vec F S512x128 .f32) (x2 : Vec F S16x128 .f32) (x4 : Vec F S8x16 .f32) :
    Σ' (LS0 : List (View.Piece (Elt F) S128x16 .f32)), Σ' (LS1 : List (View.Piece (Elt F) S512x16 .i32)), Σ' (LS2 : List (View.Piece (Elt F) S16x512x512 .f32)), Σ' (L3 : List (View.Piece (Elt F) S1x512x128 .f32)), { L4 : List (View.Piece (Elt F) S8x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread x4) L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0__fused_kernel_eq_skeleton]; unfold cc0__fused_kernel_skel
    simp only [k0_part57_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexact H4
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.KernelIdeal.Hand

end
-- ==== Proof.Run.ClosedA.lean ====
module

public import proofs.«01_k».proof.Proof.Run.RunA
public import proofs.«01_k».proof.Proof.Run.Stages
public import Idealize.ShloMosaic.Lib.Pipeline.ValueKit.Acc

/-! What the body of the first point writes: the carried scratch, the embedding block and the row of distances. -/

@[expose] public section

set_option maxRecDepth 16384

noncomputable section

namespace Cert.KernelIdeal.Hand

open Cert.KernelIdeal.Gen
open Idealize.ShloMosaic Idealize.ShloMosaic.TcCoe

variable {F : FTy → Type} [FloatOps F]

set_option maxHeartbeats 4000000

/-- The directions the first point leaves in scratch. -/
theorem runA_dir c i a1 h1 a2 h2 a3 h3 a4 h4 a5 h5 a6 h6 a7 h7 a8 h8 a9 h9 a10 h10 a11 h11 a12 h12 a13 h13 a14 h14 a15 h15 hc x0 x1 x2 x4 :
    (runA (F := F) c i a1 h1 a2 h2 a3 h3 a4 h4 a5 h5 a6 h6 a7 h7 a8 h8 a9 h9 a10 h10 a11 h11 a12 h12 a13 h13 a14 h14 a15 h15 hc x0 x1 x2 x4).1
      = [⟨Rect.unit ![0, 0] S128x16.size inb_S128x16_S128x16_0_0, proW x2⟩] := by
  unfold runA; dsimp only
  simp (disch := decide) only [
    runA.sl.HS0_1, runA.sl.HS1_16, runA.sl.HS2_16, runA.sl.HS3_1, runA.sl.HS4_1, runA.sl.HS5_1, runA.sl.HS6_16, runA.sl.HS7_16, runA.sl.HS8_16,
    runA.sl.HS9_2, runA.sl.HS9_3, runA.sl.HS9_4, runA.sl.HS9_5, runA.sl.HS9_6, runA.sl.HS9_7, runA.sl.HS9_8, runA.sl.HS9_9, runA.sl.HS9_10,
    runA.sl.HS9_11, runA.sl.HS9_12, runA.sl.HS9_13, runA.sl.HS9_14, runA.sl.HS9_15, runA.sl.HS9_16, runA.sl.cst_118, runA.sl.cst_338, runA.sl.r,
    runA.sl.r_1, runA.sl.r_2, runA.sl.r_3, runA.sl.r_4, runA.sl.r_5, runA.sl.r_6, runA.sl.r_7, runA.sl.r_8, runA.sl.r_9, runA.sl.r_10, runA.sl.r_11,
    runA.sl.r_12, runA.sl.r_13, runA.sl.r_14, runA.sl.r_15, runA.sl.r_16, runA.sl.r_17, runA.sl.r_18, runA.sl.r_19, runA.sl.r_20, runA.sl.r_21,
    runA.sl.r_22, runA.sl.r_23, runA.sl.r_24, runA.sl.r_25, runA.sl.r_26, runA.sl.r_27, runA.sl.r_28, runA.sl.r_29, runA.sl.r_30, runA.sl.r_31,
    runA.sl.r_32, runA.sl.r_33, runA.sl.r_34, runA.sl.r_35, runA.sl.r_36, runA.sl.r_37, runA.sl.r_38, runA.sl.r_39, runA.sl.r_40, runA.sl.r_41,
    runA.sl.r_42, runA.sl.r_43, runA.sl.r_44, runA.sl.r_45, runA.sl.r_46, runA.sl.r_47, runA.sl.r_48, runA.sl.r_49, runA.sl.r_50, runA.sl.r_51,
    runA.sl.r_52, runA.sl.r_53, runA.sl.r_54, runA.sl.r_55, runA.sl.r_56, runA.sl.r_57, runA.sl.r_58, runA.sl.r_59, runA.sl.r_60, runA.sl.r_61,
    runA.sl.r_62, runA.sl.r_63, runA.sl.r_64, runA.sl.r_65, runA.sl.r_66, runA.sl.r_67, runA.sl.r_68, runA.sl.r_69, runA.sl.r_70, runA.sl.r_71,
    runA.sl.r_72, runA.sl.r_73, runA.sl.r_74, runA.sl.r_75, runA.sl.r_76, runA.sl.r_77, runA.sl.r_78, runA.sl.r_79, runA.sl.r_80, runA.sl.r_81,
    runA.sl.r_82, runA.sl.r_83, runA.sl.r_84, runA.sl.r_85, runA.sl.r_86, runA.sl.r_87, runA.sl.r_88, runA.sl.r_89, runA.sl.r_90, runA.sl.r_91,
    runA.sl.r_92, runA.sl.r_93, runA.sl.r_94, runA.sl.r_95, runA.sl.r_96, runA.sl.r_97, runA.sl.r_98, runA.sl.r_99, runA.sl.r_100, runA.sl.r_101,
    runA.sl.r_102, runA.sl.r_103, runA.sl.r_104, runA.sl.r_105, runA.sl.r_106, runA.sl.r_107, runA.sl.r_108, runA.sl.r_109, runA.sl.r_110,
    runA.sl.r_111, runA.sl.r_112, runA.sl.r_113, runA.sl.r_114, runA.sl.r_115, runA.sl.r_116, runA.sl.r_117, runA.sl.r_118, runA.sl.r_119,
    runA.sl.r_120, runA.sl.r_121, runA.sl.r_122, runA.sl.v1, runA.sl.v29, runA.sl.v34, runA.sl.v326, runA.sl.v327, runA.sl.v342, runA.sl.v343,
    runA.sl.v358, runA.sl.v359, runA.sl.v374, runA.sl.v375, runA.sl.v390, runA.sl.v391, runA.sl.v406, runA.sl.v407, runA.sl.v422, runA.sl.v423,
    runA.sl.v438, runA.sl.v439, runA.sl.v454, runA.sl.v455, runA.sl.v470, runA.sl.v471, runA.sl.v486, runA.sl.v487, runA.sl.v502, runA.sl.v503,
    runA.sl.v518, runA.sl.v519, runA.sl.v534, runA.sl.v535, runA.sl.v550, runA.sl.v551, runA.sl.v566, runA.sl.v567, runA.sl.v646, runA.sl.v649,
    runA.sl.v693, runA.sl.v696, runA.sl.v740, runA.sl.v743, runA.sl.v787, runA.sl.v790, runA.sl.v834, runA.sl.v837, runA.sl.v881, runA.sl.v884,
    runA.sl.v928, runA.sl.v931, runA.sl.v975, runA.sl.v978, runA.sl.v1022, runA.sl.v1025, runA.sl.v1069, runA.sl.v1072, runA.sl.v1116, runA.sl.v1119,
    runA.sl.v1163, runA.sl.v1166, runA.sl.v1210, runA.sl.v1213, runA.sl.v1257, runA.sl.v1260, runA.sl.v1304, runA.sl.v1307, runA.sl.v1319,
    runA.sl.v1322, runA.sl.v1334, runA.sl.v1337, runA.sl.v1529, runA.sl.v1556,
    readAt_unread_ld, View.ld_unit_lit', View.readCov_cons_toLoadRect, ↓View.readCov_skip]
  rfl

/-- The reference's rank columns the first point leaves in scratch. -/
theorem runA_rankr c i a1 h1 a2 h2 a3 h3 a4 h4 a5 h5 a6 h6 a7 h7 a8 h8 a9 h9 a10 h10 a11 h11 a12 h12 a13 h13 a14 h14 a15 h15 hc x0 x1 x2 x4 :
    (runA (F := F) c i a1 h1 a2 h2 a3 h3 a4 h4 a5 h5 a6 h6 a7 h7 a8 h8 a9 h9 a10 h10 a11 h11 a12 h12 a13 h13 a14 h14 a15 h15 hc x0 x1 x2 x4).2.1
      = stack rCol (proRankr x1 x2) 16 le_rfl := by
  unfold runA; dsimp only
  simp (disch := decide) only [
    runA.sl.HS0_1, runA.sl.HS1_16, runA.sl.HS2_16, runA.sl.HS3_1, runA.sl.HS4_1, runA.sl.HS5_1, runA.sl.HS6_16, runA.sl.HS7_16, runA.sl.HS8_16,
    runA.sl.HS9_2, runA.sl.HS9_3, runA.sl.HS9_4, runA.sl.HS9_5, runA.sl.HS9_6, runA.sl.HS9_7, runA.sl.HS9_8, runA.sl.HS9_9, runA.sl.HS9_10,
    runA.sl.HS9_11, runA.sl.HS9_12, runA.sl.HS9_13, runA.sl.HS9_14, runA.sl.HS9_15, runA.sl.HS9_16, runA.sl.cst_118, runA.sl.cst_338, runA.sl.r,
    runA.sl.r_1, runA.sl.r_2, runA.sl.r_3, runA.sl.r_4, runA.sl.r_5, runA.sl.r_6, runA.sl.r_7, runA.sl.r_8, runA.sl.r_9, runA.sl.r_10, runA.sl.r_11,
    runA.sl.r_12, runA.sl.r_13, runA.sl.r_14, runA.sl.r_15, runA.sl.r_16, runA.sl.r_17, runA.sl.r_18, runA.sl.r_19, runA.sl.r_20, runA.sl.r_21,
    runA.sl.r_22, runA.sl.r_23, runA.sl.r_24, runA.sl.r_25, runA.sl.r_26, runA.sl.r_27, runA.sl.r_28, runA.sl.r_29, runA.sl.r_30, runA.sl.r_31,
    runA.sl.r_32, runA.sl.r_33, runA.sl.r_34, runA.sl.r_35, runA.sl.r_36, runA.sl.r_37, runA.sl.r_38, runA.sl.r_39, runA.sl.r_40, runA.sl.r_41,
    runA.sl.r_42, runA.sl.r_43, runA.sl.r_44, runA.sl.r_45, runA.sl.r_46, runA.sl.r_47, runA.sl.r_48, runA.sl.r_49, runA.sl.r_50, runA.sl.r_51,
    runA.sl.r_52, runA.sl.r_53, runA.sl.r_54, runA.sl.r_55, runA.sl.r_56, runA.sl.r_57, runA.sl.r_58, runA.sl.r_59, runA.sl.r_60, runA.sl.r_61,
    runA.sl.r_62, runA.sl.r_63, runA.sl.r_64, runA.sl.r_65, runA.sl.r_66, runA.sl.r_67, runA.sl.r_68, runA.sl.r_69, runA.sl.r_70, runA.sl.r_71,
    runA.sl.r_72, runA.sl.r_73, runA.sl.r_74, runA.sl.r_75, runA.sl.r_76, runA.sl.r_77, runA.sl.r_78, runA.sl.r_79, runA.sl.r_80, runA.sl.r_81,
    runA.sl.r_82, runA.sl.r_83, runA.sl.r_84, runA.sl.r_85, runA.sl.r_86, runA.sl.r_87, runA.sl.r_88, runA.sl.r_89, runA.sl.r_90, runA.sl.r_91,
    runA.sl.r_92, runA.sl.r_93, runA.sl.r_94, runA.sl.r_95, runA.sl.r_96, runA.sl.r_97, runA.sl.r_98, runA.sl.r_99, runA.sl.r_100, runA.sl.r_101,
    runA.sl.r_102, runA.sl.r_103, runA.sl.r_104, runA.sl.r_105, runA.sl.r_106, runA.sl.r_107, runA.sl.r_108, runA.sl.r_109, runA.sl.r_110,
    runA.sl.r_111, runA.sl.r_112, runA.sl.r_113, runA.sl.r_114, runA.sl.r_115, runA.sl.r_116, runA.sl.r_117, runA.sl.r_118, runA.sl.r_119,
    runA.sl.r_120, runA.sl.r_121, runA.sl.r_122, runA.sl.v1, runA.sl.v29, runA.sl.v34, runA.sl.v326, runA.sl.v327, runA.sl.v342, runA.sl.v343,
    runA.sl.v358, runA.sl.v359, runA.sl.v374, runA.sl.v375, runA.sl.v390, runA.sl.v391, runA.sl.v406, runA.sl.v407, runA.sl.v422, runA.sl.v423,
    runA.sl.v438, runA.sl.v439, runA.sl.v454, runA.sl.v455, runA.sl.v470, runA.sl.v471, runA.sl.v486, runA.sl.v487, runA.sl.v502, runA.sl.v503,
    runA.sl.v518, runA.sl.v519, runA.sl.v534, runA.sl.v535, runA.sl.v550, runA.sl.v551, runA.sl.v566, runA.sl.v567, runA.sl.v646, runA.sl.v649,
    runA.sl.v693, runA.sl.v696, runA.sl.v740, runA.sl.v743, runA.sl.v787, runA.sl.v790, runA.sl.v834, runA.sl.v837, runA.sl.v881, runA.sl.v884,
    runA.sl.v928, runA.sl.v931, runA.sl.v975, runA.sl.v978, runA.sl.v1022, runA.sl.v1025, runA.sl.v1069, runA.sl.v1072, runA.sl.v1116, runA.sl.v1119,
    runA.sl.v1163, runA.sl.v1166, runA.sl.v1210, runA.sl.v1213, runA.sl.v1257, runA.sl.v1260, runA.sl.v1304, runA.sl.v1307, runA.sl.v1319,
    runA.sl.v1322, runA.sl.v1334, runA.sl.v1337, runA.sl.v1529, runA.sl.v1556,
    readAt_unread_ld, View.ld_unit_lit', View.readCov_cons_toLoadRect, ↓View.readCov_skip]
  rfl

/-- The reference's soft sorts the first point leaves in scratch. -/
theorem runA_soft c i a1 h1 a2 h2 a3 h3 a4 h4 a5 h5 a6 h6 a7 h7 a8 h8 a9 h9 a10 h10 a11 h11 a12 h12 a13 h13 a14 h14 a15 h15 hc x0 x1 x2 x4 :
    (runA (F := F) c i a1 h1 a2 h2 a3 h3 a4 h4 a5 h5 a6 h6 a7 h7 a8 h8 a9 h9 a10 h10 a11 h11 a12 h12 a13 h13 a14 h14 a15 h15 hc x0 x1 x2 x4).2.2.1
      = stack rSlab (proSoft x1 x2) 16 le_rfl := by
  unfold runA; dsimp only
  simp (disch := decide) only [
    runA.sl.HS0_1, runA.sl.HS1_16, runA.sl.HS2_16, runA.sl.HS3_1, runA.sl.HS4_1, runA.sl.HS5_1, runA.sl.HS6_16, runA.sl.HS7_16, runA.sl.HS8_16,
    runA.sl.HS9_2, runA.sl.HS9_3, runA.sl.HS9_4, runA.sl.HS9_5, runA.sl.HS9_6, runA.sl.HS9_7, runA.sl.HS9_8, runA.sl.HS9_9, runA.sl.HS9_10,
    runA.sl.HS9_11, runA.sl.HS9_12, runA.sl.HS9_13, runA.sl.HS9_14, runA.sl.HS9_15, runA.sl.HS9_16, runA.sl.cst_118, runA.sl.cst_338, runA.sl.r,
    runA.sl.r_1, runA.sl.r_2, runA.sl.r_3, runA.sl.r_4, runA.sl.r_5, runA.sl.r_6, runA.sl.r_7, runA.sl.r_8, runA.sl.r_9, runA.sl.r_10, runA.sl.r_11,
    runA.sl.r_12, runA.sl.r_13, runA.sl.r_14, runA.sl.r_15, runA.sl.r_16, runA.sl.r_17, runA.sl.r_18, runA.sl.r_19, runA.sl.r_20, runA.sl.r_21,
    runA.sl.r_22, runA.sl.r_23, runA.sl.r_24, runA.sl.r_25, runA.sl.r_26, runA.sl.r_27, runA.sl.r_28, runA.sl.r_29, runA.sl.r_30, runA.sl.r_31,
    runA.sl.r_32, runA.sl.r_33, runA.sl.r_34, runA.sl.r_35, runA.sl.r_36, runA.sl.r_37, runA.sl.r_38, runA.sl.r_39, runA.sl.r_40, runA.sl.r_41,
    runA.sl.r_42, runA.sl.r_43, runA.sl.r_44, runA.sl.r_45, runA.sl.r_46, runA.sl.r_47, runA.sl.r_48, runA.sl.r_49, runA.sl.r_50, runA.sl.r_51,
    runA.sl.r_52, runA.sl.r_53, runA.sl.r_54, runA.sl.r_55, runA.sl.r_56, runA.sl.r_57, runA.sl.r_58, runA.sl.r_59, runA.sl.r_60, runA.sl.r_61,
    runA.sl.r_62, runA.sl.r_63, runA.sl.r_64, runA.sl.r_65, runA.sl.r_66, runA.sl.r_67, runA.sl.r_68, runA.sl.r_69, runA.sl.r_70, runA.sl.r_71,
    runA.sl.r_72, runA.sl.r_73, runA.sl.r_74, runA.sl.r_75, runA.sl.r_76, runA.sl.r_77, runA.sl.r_78, runA.sl.r_79, runA.sl.r_80, runA.sl.r_81,
    runA.sl.r_82, runA.sl.r_83, runA.sl.r_84, runA.sl.r_85, runA.sl.r_86, runA.sl.r_87, runA.sl.r_88, runA.sl.r_89, runA.sl.r_90, runA.sl.r_91,
    runA.sl.r_92, runA.sl.r_93, runA.sl.r_94, runA.sl.r_95, runA.sl.r_96, runA.sl.r_97, runA.sl.r_98, runA.sl.r_99, runA.sl.r_100, runA.sl.r_101,
    runA.sl.r_102, runA.sl.r_103, runA.sl.r_104, runA.sl.r_105, runA.sl.r_106, runA.sl.r_107, runA.sl.r_108, runA.sl.r_109, runA.sl.r_110,
    runA.sl.r_111, runA.sl.r_112, runA.sl.r_113, runA.sl.r_114, runA.sl.r_115, runA.sl.r_116, runA.sl.r_117, runA.sl.r_118, runA.sl.r_119,
    runA.sl.r_120, runA.sl.r_121, runA.sl.r_122, runA.sl.v1, runA.sl.v29, runA.sl.v34, runA.sl.v326, runA.sl.v327, runA.sl.v342, runA.sl.v343,
    runA.sl.v358, runA.sl.v359, runA.sl.v374, runA.sl.v375, runA.sl.v390, runA.sl.v391, runA.sl.v406, runA.sl.v407, runA.sl.v422, runA.sl.v423,
    runA.sl.v438, runA.sl.v439, runA.sl.v454, runA.sl.v455, runA.sl.v470, runA.sl.v471, runA.sl.v486, runA.sl.v487, runA.sl.v502, runA.sl.v503,
    runA.sl.v518, runA.sl.v519, runA.sl.v534, runA.sl.v535, runA.sl.v550, runA.sl.v551, runA.sl.v566, runA.sl.v567, runA.sl.v646, runA.sl.v649,
    runA.sl.v693, runA.sl.v696, runA.sl.v740, runA.sl.v743, runA.sl.v787, runA.sl.v790, runA.sl.v834, runA.sl.v837, runA.sl.v881, runA.sl.v884,
    runA.sl.v928, runA.sl.v931, runA.sl.v975, runA.sl.v978, runA.sl.v1022, runA.sl.v1025, runA.sl.v1069, runA.sl.v1072, runA.sl.v1116, runA.sl.v1119,
    runA.sl.v1163, runA.sl.v1166, runA.sl.v1210, runA.sl.v1213, runA.sl.v1257, runA.sl.v1260, runA.sl.v1304, runA.sl.v1307, runA.sl.v1319,
    runA.sl.v1322, runA.sl.v1334, runA.sl.v1337, runA.sl.v1529, runA.sl.v1556,
    readAt_unread_ld, View.ld_unit_lit', View.readCov_cons_toLoadRect, ↓View.readCov_skip]
  rfl

/-- The embedding block of the first point. -/
theorem runA_emb c i a1 h1 a2 h2 a3 h3 a4 h4 a5 h5 a6 h6 a7 h7 a8 h8 a9 h9 a10 h10 a11 h11 a12 h12 a13 h13 a14 h14 a15 h15 hc x0 x1 x2 x4 :
    (runA (F := F) c i a1 h1 a2 h2 a3 h3 a4 h4 a5 h5 a6 h6 a7 h7 a8 h8 a9 h9 a10 h10 a11 h11 a12 h12 a13 h13 a14 h14 a15 h15 hc x0 x1 x2 x4).2.2.2.1
      = [⟨Rect.unit ![0, 0, 0] S1x512x128.size inb_S1x512x128_S1x512x128_0_0_0, mEmb x0 x1 (proW x2) (proRankr x1 x2)⟩] := by
  unfold runA; dsimp only
  simp (disch := decide) only [
    runA.sl.HS0_1, runA.sl.HS1_16, runA.sl.HS2_16, runA.sl.HS3_1, runA.sl.HS4_1, runA.sl.HS5_1, runA.sl.HS6_16, runA.sl.HS7_16, runA.sl.HS8_16,
    runA.sl.HS9_2, runA.sl.HS9_3, runA.sl.HS9_4, runA.sl.HS9_5, runA.sl.HS9_6, runA.sl.HS9_7, runA.sl.HS9_8, runA.sl.HS9_9, runA.sl.HS9_10,
    runA.sl.HS9_11, runA.sl.HS9_12, runA.sl.HS9_13, runA.sl.HS9_14, runA.sl.HS9_15, runA.sl.HS9_16, runA.sl.cst_118, runA.sl.cst_338, runA.sl.r,
    runA.sl.r_1, runA.sl.r_2, runA.sl.r_3, runA.sl.r_4, runA.sl.r_5, runA.sl.r_6, runA.sl.r_7, runA.sl.r_8, runA.sl.r_9, runA.sl.r_10, runA.sl.r_11,
    runA.sl.r_12, runA.sl.r_13, runA.sl.r_14, runA.sl.r_15, runA.sl.r_16, runA.sl.r_17, runA.sl.r_18, runA.sl.r_19, runA.sl.r_20, runA.sl.r_21,
    runA.sl.r_22, runA.sl.r_23, runA.sl.r_24, runA.sl.r_25, runA.sl.r_26, runA.sl.r_27, runA.sl.r_28, runA.sl.r_29, runA.sl.r_30, runA.sl.r_31,
    runA.sl.r_32, runA.sl.r_33, runA.sl.r_34, runA.sl.r_35, runA.sl.r_36, runA.sl.r_37, runA.sl.r_38, runA.sl.r_39, runA.sl.r_40, runA.sl.r_41,
    runA.sl.r_42, runA.sl.r_43, runA.sl.r_44, runA.sl.r_45, runA.sl.r_46, runA.sl.r_47, runA.sl.r_48, runA.sl.r_49, runA.sl.r_50, runA.sl.r_51,
    runA.sl.r_52, runA.sl.r_53, runA.sl.r_54, runA.sl.r_55, runA.sl.r_56, runA.sl.r_57, runA.sl.r_58, runA.sl.r_59, runA.sl.r_60, runA.sl.r_61,
    runA.sl.r_62, runA.sl.r_63, runA.sl.r_64, runA.sl.r_65, runA.sl.r_66, runA.sl.r_67, runA.sl.r_68, runA.sl.r_69, runA.sl.r_70, runA.sl.r_71,
    runA.sl.r_72, runA.sl.r_73, runA.sl.r_74, runA.sl.r_75, runA.sl.r_76, runA.sl.r_77, runA.sl.r_78, runA.sl.r_79, runA.sl.r_80, runA.sl.r_81,
    runA.sl.r_82, runA.sl.r_83, runA.sl.r_84, runA.sl.r_85, runA.sl.r_86, runA.sl.r_87, runA.sl.r_88, runA.sl.r_89, runA.sl.r_90, runA.sl.r_91,
    runA.sl.r_92, runA.sl.r_93, runA.sl.r_94, runA.sl.r_95, runA.sl.r_96, runA.sl.r_97, runA.sl.r_98, runA.sl.r_99, runA.sl.r_100, runA.sl.r_101,
    runA.sl.r_102, runA.sl.r_103, runA.sl.r_104, runA.sl.r_105, runA.sl.r_106, runA.sl.r_107, runA.sl.r_108, runA.sl.r_109, runA.sl.r_110,
    runA.sl.r_111, runA.sl.r_112, runA.sl.r_113, runA.sl.r_114, runA.sl.r_115, runA.sl.r_116, runA.sl.r_117, runA.sl.r_118, runA.sl.r_119,
    runA.sl.r_120, runA.sl.r_121, runA.sl.r_122, runA.sl.v1, runA.sl.v29, runA.sl.v34, runA.sl.v326, runA.sl.v327, runA.sl.v342, runA.sl.v343,
    runA.sl.v358, runA.sl.v359, runA.sl.v374, runA.sl.v375, runA.sl.v390, runA.sl.v391, runA.sl.v406, runA.sl.v407, runA.sl.v422, runA.sl.v423,
    runA.sl.v438, runA.sl.v439, runA.sl.v454, runA.sl.v455, runA.sl.v470, runA.sl.v471, runA.sl.v486, runA.sl.v487, runA.sl.v502, runA.sl.v503,
    runA.sl.v518, runA.sl.v519, runA.sl.v534, runA.sl.v535, runA.sl.v550, runA.sl.v551, runA.sl.v566, runA.sl.v567, runA.sl.v646, runA.sl.v649,
    runA.sl.v693, runA.sl.v696, runA.sl.v740, runA.sl.v743, runA.sl.v787, runA.sl.v790, runA.sl.v834, runA.sl.v837, runA.sl.v881, runA.sl.v884,
    runA.sl.v928, runA.sl.v931, runA.sl.v975, runA.sl.v978, runA.sl.v1022, runA.sl.v1025, runA.sl.v1069, runA.sl.v1072, runA.sl.v1116, runA.sl.v1119,
    runA.sl.v1163, runA.sl.v1166, runA.sl.v1210, runA.sl.v1213, runA.sl.v1257, runA.sl.v1260, runA.sl.v1304, runA.sl.v1307, runA.sl.v1319,
    runA.sl.v1322, runA.sl.v1334, runA.sl.v1337, runA.sl.v1529, runA.sl.v1556,
    readAt_unread_ld, View.ld_unit_lit', View.readCov_cons_toLoadRect, ↓View.readCov_skip]
  erw [readCov_cells (Val := Elt F) (e := .f32) a13.view (mEd x0 x1 (proW x2) (proRankr x1 x2)) inb_S8x16_S1x16_0_0]
  rfl

/-- The row of distances of the first point. -/
theorem runA_dl c i a1 h1 a2 h2 a3 h3 a4 h4 a5 h5 a6 h6 a7 h7 a8 h8 a9 h9 a10 h10 a11 h11 a12 h12 a13 h13 a14 h14 a15 h15 hc x0 x1 x2 x4 :
    (runA (F := F) c i a1 h1 a2 h2 a3 h3 a4 h4 a5 h5 a6 h6 a7 h7 a8 h8 a9 h9 a10 h10 a11 h11 a12 h12 a13 h13 a14 h14 a15 h15 hc x0 x1 x2 x4).2.2.2.2.1
      = [⟨Rect.unit (k0_off1 i) S1x16.size (k0_off1_inb i), mDl x0 x1 (proW x2) (proSoft x1 x2)⟩] := by
  unfold runA; dsimp only
  simp (disch := decide) only [
    runA.sl.HS0_1, runA.sl.HS1_16, runA.sl.HS2_16, runA.sl.HS3_1, runA.sl.HS4_1, runA.sl.HS5_1, runA.sl.HS6_16, runA.sl.HS7_16, runA.sl.HS8_16,
    runA.sl.HS9_2, runA.sl.HS9_3, runA.sl.HS9_4, runA.sl.HS9_5, runA.sl.HS9_6, runA.sl.HS9_7, runA.sl.HS9_8, runA.sl.HS9_9, runA.sl.HS9_10,
    runA.sl.HS9_11, runA.sl.HS9_12, runA.sl.HS9_13, runA.sl.HS9_14, runA.sl.HS9_15, runA.sl.HS9_16, runA.sl.cst_118, runA.sl.cst_338, runA.sl.r,
    runA.sl.r_1, runA.sl.r_2, runA.sl.r_3, runA.sl.r_4, runA.sl.r_5, runA.sl.r_6, runA.sl.r_7, runA.sl.r_8, runA.sl.r_9, runA.sl.r_10, runA.sl.r_11,
    runA.sl.r_12, runA.sl.r_13, runA.sl.r_14, runA.sl.r_15, runA.sl.r_16, runA.sl.r_17, runA.sl.r_18, runA.sl.r_19, runA.sl.r_20, runA.sl.r_21,
    runA.sl.r_22, runA.sl.r_23, runA.sl.r_24, runA.sl.r_25, runA.sl.r_26, runA.sl.r_27, runA.sl.r_28, runA.sl.r_29, runA.sl.r_30, runA.sl.r_31,
    runA.sl.r_32, runA.sl.r_33, runA.sl.r_34, runA.sl.r_35, runA.sl.r_36, runA.sl.r_37, runA.sl.r_38, runA.sl.r_39, runA.sl.r_40, runA.sl.r_41,
    runA.sl.r_42, runA.sl.r_43, runA.sl.r_44, runA.sl.r_45, runA.sl.r_46, runA.sl.r_47, runA.sl.r_48, runA.sl.r_49, runA.sl.r_50, runA.sl.r_51,
    runA.sl.r_52, runA.sl.r_53, runA.sl.r_54, runA.sl.r_55, runA.sl.r_56, runA.sl.r_57, runA.sl.r_58, runA.sl.r_59, runA.sl.r_60, runA.sl.r_61,
    runA.sl.r_62, runA.sl.r_63, runA.sl.r_64, runA.sl.r_65, runA.sl.r_66, runA.sl.r_67, runA.sl.r_68, runA.sl.r_69, runA.sl.r_70, runA.sl.r_71,
    runA.sl.r_72, runA.sl.r_73, runA.sl.r_74, runA.sl.r_75, runA.sl.r_76, runA.sl.r_77, runA.sl.r_78, runA.sl.r_79, runA.sl.r_80, runA.sl.r_81,
    runA.sl.r_82, runA.sl.r_83, runA.sl.r_84, runA.sl.r_85, runA.sl.r_86, runA.sl.r_87, runA.sl.r_88, runA.sl.r_89, runA.sl.r_90, runA.sl.r_91,
    runA.sl.r_92, runA.sl.r_93, runA.sl.r_94, runA.sl.r_95, runA.sl.r_96, runA.sl.r_97, runA.sl.r_98, runA.sl.r_99, runA.sl.r_100, runA.sl.r_101,
    runA.sl.r_102, runA.sl.r_103, runA.sl.r_104, runA.sl.r_105, runA.sl.r_106, runA.sl.r_107, runA.sl.r_108, runA.sl.r_109, runA.sl.r_110,
    runA.sl.r_111, runA.sl.r_112, runA.sl.r_113, runA.sl.r_114, runA.sl.r_115, runA.sl.r_116, runA.sl.r_117, runA.sl.r_118, runA.sl.r_119,
    runA.sl.r_120, runA.sl.r_121, runA.sl.r_122, runA.sl.v1, runA.sl.v29, runA.sl.v34, runA.sl.v326, runA.sl.v327, runA.sl.v342, runA.sl.v343,
    runA.sl.v358, runA.sl.v359, runA.sl.v374, runA.sl.v375, runA.sl.v390, runA.sl.v391, runA.sl.v406, runA.sl.v407, runA.sl.v422, runA.sl.v423,
    runA.sl.v438, runA.sl.v439, runA.sl.v454, runA.sl.v455, runA.sl.v470, runA.sl.v471, runA.sl.v486, runA.sl.v487, runA.sl.v502, runA.sl.v503,
    runA.sl.v518, runA.sl.v519, runA.sl.v534, runA.sl.v535, runA.sl.v550, runA.sl.v551, runA.sl.v566, runA.sl.v567, runA.sl.v646, runA.sl.v649,
    runA.sl.v693, runA.sl.v696, runA.sl.v740, runA.sl.v743, runA.sl.v787, runA.sl.v790, runA.sl.v834, runA.sl.v837, runA.sl.v881, runA.sl.v884,
    runA.sl.v928, runA.sl.v931, runA.sl.v975, runA.sl.v978, runA.sl.v1022, runA.sl.v1025, runA.sl.v1069, runA.sl.v1072, runA.sl.v1116, runA.sl.v1119,
    runA.sl.v1163, runA.sl.v1166, runA.sl.v1210, runA.sl.v1213, runA.sl.v1257, runA.sl.v1260, runA.sl.v1304, runA.sl.v1307, runA.sl.v1319,
    runA.sl.v1322, runA.sl.v1334, runA.sl.v1337, runA.sl.v1529, runA.sl.v1556,
    readAt_unread_ld, View.ld_unit_lit', View.readCov_cons_toLoadRect, ↓View.readCov_skip]
  exact congrArg (fun w => [(⟨Rect.unit (k0_off1 i) S1x16.size (k0_off1_inb i), w⟩ : View.Piece (Elt F) S8x16 .f32)])
    (readCov_cells (Val := Elt F) (e := .f32) a14.view (mDist x0 x1 (proW x2) (proSoft x1 x2)) inb_S8x16_S1x16_0_0)

end Cert.KernelIdeal.Hand

end
-- ==== Proof.Run.ClosedB.lean ====
module

public import proofs.«01_k».proof.Proof.Run.RunB
public import proofs.«01_k».proof.Proof.Run.Stages
public import Idealize.ShloMosaic.Lib.Pipeline.ValueKit.Acc

/-! What the body of a later point writes: the embedding block and the row of distances, as the stages' closed forms. -/

@[expose] public section

set_option maxRecDepth 16384

noncomputable section

namespace Cert.KernelIdeal.Hand

open Cert.KernelIdeal.Gen
open Idealize.ShloMosaic Idealize.ShloMosaic.TcCoe

variable {F : FTy → Type} [FloatOps F]

set_option maxHeartbeats 4000000

/-- The embedding block of a later point, from the carried directions and rank columns. -/
theorem runB_emb c i a1 h1 a2 h2 a3 h3 a4 h4 a5 h5 a6 h6 a7 h7 a8 h8 a9 h9 a10 h10 a11 h11 a12 h12 a13 h13 a14 h14 a15 h15 hc x0 x1 x2 x4 xs0 xs1 xs2 :
    (runB (F := F) c i a1 h1 a2 h2 a3 h3 a4 h4 a5 h5 a6 h6 a7 h7 a8 h8 a9 h9 a10 h10 a11 h11 a12 h12 a13 h13 a14 h14 a15 h15 hc x0 x1 x2 x4 xs0 xs1 xs2).1
      = [⟨Rect.unit ![0, 0, 0] S1x512x128.size inb_S1x512x128_S1x512x128_0_0_0, mEmb x0 x1 xs0 fun l => View.ld xs1 (rCol l)⟩] := by
  unfold runB; dsimp only
  simp (disch := decide) only [
    runB.sl.HS3_1, runB.sl.HS4_1, runB.sl.HS5_1, runB.sl.HS6_16, runB.sl.HS7_16, runB.sl.HS8_16, runB.sl.HS9_2, runB.sl.HS9_3, runB.sl.HS9_4,
    runB.sl.HS9_5, runB.sl.HS9_6, runB.sl.HS9_7, runB.sl.HS9_8, runB.sl.HS9_9, runB.sl.HS9_10, runB.sl.HS9_11, runB.sl.HS9_12, runB.sl.HS9_13,
    runB.sl.HS9_14, runB.sl.HS9_15, runB.sl.HS9_16, runB.sl.cst_118, runB.sl.cst_338, runB.sl.r, runB.sl.r_1, runB.sl.r_2, runB.sl.r_3, runB.sl.r_4,
    runB.sl.r_5, runB.sl.r_6, runB.sl.r_7, runB.sl.r_8, runB.sl.r_9, runB.sl.r_10, runB.sl.r_11, runB.sl.r_12, runB.sl.r_13, runB.sl.r_14,
    runB.sl.r_15, runB.sl.r_16, runB.sl.r_17, runB.sl.r_18, runB.sl.r_19, runB.sl.r_20, runB.sl.r_21, runB.sl.r_22, runB.sl.r_23, runB.sl.r_24,
    runB.sl.r_25, runB.sl.r_26, runB.sl.r_27, runB.sl.r_28, runB.sl.r_29, runB.sl.r_30, runB.sl.r_31, runB.sl.r_32, runB.sl.r_33, runB.sl.r_34,
    runB.sl.r_35, runB.sl.r_36, runB.sl.r_37, runB.sl.r_38, runB.sl.r_39, runB.sl.r_40, runB.sl.r_41, runB.sl.r_42, runB.sl.r_43, runB.sl.r_44,
    runB.sl.r_45, runB.sl.r_46, runB.sl.r_47, runB.sl.r_48, runB.sl.r_49, runB.sl.r_50, runB.sl.r_51, runB.sl.r_52, runB.sl.r_53, runB.sl.r_54,
    runB.sl.r_55, runB.sl.r_56, runB.sl.r_57, runB.sl.r_58, runB.sl.r_59, runB.sl.r_60, runB.sl.r_61, runB.sl.r_62, runB.sl.r_63, runB.sl.r_64,
    runB.sl.r_65, runB.sl.r_66, runB.sl.r_67, runB.sl.r_68, runB.sl.r_69, runB.sl.v1, runB.sl.v29, runB.sl.v34, runB.sl.v327, runB.sl.v343,
    runB.sl.v359, runB.sl.v375, runB.sl.v391, runB.sl.v407, runB.sl.v423, runB.sl.v439, runB.sl.v455, runB.sl.v471, runB.sl.v487, runB.sl.v503,
    runB.sl.v519, runB.sl.v535, runB.sl.v551, runB.sl.v567, runB.sl.v646, runB.sl.v693, runB.sl.v740, runB.sl.v787, runB.sl.v834, runB.sl.v881,
    runB.sl.v928, runB.sl.v975, runB.sl.v1022, runB.sl.v1069, runB.sl.v1116, runB.sl.v1163, runB.sl.v1210, runB.sl.v1257, runB.sl.v1304,
    runB.sl.v1319, runB.sl.v1334, runB.sl.v1337, runB.sl.v1529,
    readAt_unread_ld, View.ld_unit_lit', View.readCov_cons_toLoadRect, ↓View.readCov_skip]
  erw [readCov_cells (Val := Elt F) (e := .f32) a13.view (mEd x0 x1 xs0 fun l => View.ld xs1 (rCol l)) inb_S8x16_S1x16_0_0]
  rfl

/-- The row of distances of a later point, from the carried directions and soft sorts. -/
theorem runB_dl c i a1 h1 a2 h2 a3 h3 a4 h4 a5 h5 a6 h6 a7 h7 a8 h8 a9 h9 a10 h10 a11 h11 a12 h12 a13 h13 a14 h14 a15 h15 hc x0 x1 x2 x4 xs0 xs1 xs2 :
    (runB (F := F) c i a1 h1 a2 h2 a3 h3 a4 h4 a5 h5 a6 h6 a7 h7 a8 h8 a9 h9 a10 h10 a11 h11 a12 h12 a13 h13 a14 h14 a15 h15 hc x0 x1 x2 x4 xs0 xs1 xs2).2.1
      = [⟨Rect.unit (k0_off1 i) S1x16.size (k0_off1_inb i), mDl x0 x1 xs0 fun l => View.ld xs2 (rSlab l)⟩] := by
  unfold runB; dsimp only
  simp (disch := decide) only [
    runB.sl.HS3_1, runB.sl.HS4_1, runB.sl.HS5_1, runB.sl.HS6_16, runB.sl.HS7_16, runB.sl.HS8_16, runB.sl.HS9_2, runB.sl.HS9_3, runB.sl.HS9_4,
    runB.sl.HS9_5, runB.sl.HS9_6, runB.sl.HS9_7, runB.sl.HS9_8, runB.sl.HS9_9, runB.sl.HS9_10, runB.sl.HS9_11, runB.sl.HS9_12, runB.sl.HS9_13,
    runB.sl.HS9_14, runB.sl.HS9_15, runB.sl.HS9_16, runB.sl.cst_118, runB.sl.cst_338, runB.sl.r, runB.sl.r_1, runB.sl.r_2, runB.sl.r_3, runB.sl.r_4,
    runB.sl.r_5, runB.sl.r_6, runB.sl.r_7, runB.sl.r_8, runB.sl.r_9, runB.sl.r_10, runB.sl.r_11, runB.sl.r_12, runB.sl.r_13, runB.sl.r_14,
    runB.sl.r_15, runB.sl.r_16, runB.sl.r_17, runB.sl.r_18, runB.sl.r_19, runB.sl.r_20, runB.sl.r_21, runB.sl.r_22, runB.sl.r_23, runB.sl.r_24,
    runB.sl.r_25, runB.sl.r_26, runB.sl.r_27, runB.sl.r_28, runB.sl.r_29, runB.sl.r_30, runB.sl.r_31, runB.sl.r_32, runB.sl.r_33, runB.sl.r_34,
    runB.sl.r_35, runB.sl.r_36, runB.sl.r_37, runB.sl.r_38, runB.sl.r_39, runB.sl.r_40, runB.sl.r_41, runB.sl.r_42, runB.sl.r_43, runB.sl.r_44,
    runB.sl.r_45, runB.sl.r_46, runB.sl.r_47, runB.sl.r_48, runB.sl.r_49, runB.sl.r_50, runB.sl.r_51, runB.sl.r_52, runB.sl.r_53, runB.sl.r_54,
    runB.sl.r_55, runB.sl.r_56, runB.sl.r_57, runB.sl.r_58, runB.sl.r_59, runB.sl.r_60, runB.sl.r_61, runB.sl.r_62, runB.sl.r_63, runB.sl.r_64,
    runB.sl.r_65, runB.sl.r_66, runB.sl.r_67, runB.sl.r_68, runB.sl.r_69, runB.sl.v1, runB.sl.v29, runB.sl.v34, runB.sl.v327, runB.sl.v343,
    runB.sl.v359, runB.sl.v375, runB.sl.v391, runB.sl.v407, runB.sl.v423, runB.sl.v439, runB.sl.v455, runB.sl.v471, runB.sl.v487, runB.sl.v503,
    runB.sl.v519, runB.sl.v535, runB.sl.v551, runB.sl.v567, runB.sl.v646, runB.sl.v693, runB.sl.v740, runB.sl.v787, runB.sl.v834, runB.sl.v881,
    runB.sl.v928, runB.sl.v975, runB.sl.v1022, runB.sl.v1069, runB.sl.v1116, runB.sl.v1163, runB.sl.v1210, runB.sl.v1257, runB.sl.v1304,
    runB.sl.v1319, runB.sl.v1334, runB.sl.v1337, runB.sl.v1529,
    readAt_unread_ld, View.ld_unit_lit', View.readCov_cons_toLoadRect, ↓View.readCov_skip]
  exact congrArg (fun w => [(⟨Rect.unit (k0_off1 i) S1x16.size (k0_off1_inb i), w⟩ : View.Piece (Elt F) S8x16 .f32)])
    (readCov_cells (Val := Elt F) (e := .f32) a14.view (mDist x0 x1 xs0 fun l => View.ld xs2 (rSlab l)) inb_S8x16_S1x16_0_0)

end Cert.KernelIdeal.Hand

end
-- ==== Proof.Run.Data.lean ====
module

public import proofs.«01_k».proof.Proof.Run.ClosedA
public import proofs.«01_k».proof.Proof.Run.ClosedB
public import Idealize.ShloMosaic.Lib.Pipeline.DatRel
public import Idealize.ShloMosaic.Lib.WritesUnit

/-! The pipeline's proof data and the body obligation: what each window and each carried scratch holds point by point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is kept between points -/

/-- The first point. -/
abbrev tz : Fin cfg0.N := ⟨0, Nat.lt_of_lt_of_eq (by decide) N_0.symm⟩
/-- The directions kept in scratch. -/
def cW (c : Dev nD) : Vec F S128x16 .f32 := proW (iblk m c 2 tz)
/-- The reference's rank columns. -/
def cRR (c : Dev nD) (l : Fin 16) : IVec S512x1 32 := proRankr (iblk m c 1 tz) (iblk m c 2 tz) l
/-- The reference's soft permutations. -/
def cSR (c : Dev nD) (l : Fin 16) : FVec F S1x512x512 .f32 := proSoft (iblk m c 1 tz) (iblk m c 2 tz) l
/-- The rank columns as the scratch buffer holds them. -/
def cRRbuf (c : Dev nD) : Vec F S512x16 .i32 := View.canon (Val := Elt F) (e := .i32) (stack rCol (cRR m c) 16 le_rfl)
/-- The soft permutations as the scratch buffer holds them. -/
def cSRbuf (c : Dev nD) : Vec F S16x512x512 .f32 := View.canon (Val := Elt F) (e := .f32) (stack rSlab (cSR m c) 16 le_rfl)

/-- A column of the stack of columns is that column. -/
theorem ld_stackCol (P : Fin 16 → S512x1.Idx → Elt F .i32) (l : Fin 16) :
    View.ld (Val := Elt F) (e' := .i32) (View.canon (Val := Elt F) (e := .i32) (stack rCol P 16 le_rfl)) (rCol l) = P l := by
  funext x; exact canon_stack (Val := Elt F) (e := .i32) rCol P rCol_disjoint l x 16 le_rfl l.isLt
/-- A slab of the stack of slabs is that slab. -/
theorem ld_stackSlab (P : Fin 16 → S1x512x512.Idx → Elt F .f32) (l : Fin 16) :
    View.ld (Val := Elt F) (e' := .f32) (View.canon (Val := Elt F) (e := .f32) (stack rSlab P 16 le_rfl)) (rSlab l) = P l := by
  funext x; exact canon_stack (Val := Elt F) (e := .f32) rSlab P rSlab_disjoint l x 16 le_rfl l.isLt

/-- The kept ranks' column of a slice. -/
theorem ld_cRRbuf (c : Dev nD) (l : Fin 16) : View.ld (Val := Elt F) (e' := .i32) (cRRbuf m c) (rCol l) = cRR m c l := by
  unfold cRRbuf; exact ld_stackCol (cRR m c) l
/-- The kept soft sort's slab of a slice. -/
theorem ld_cSRbuf (c : Dev nD) (l : Fin 16) : View.ld (Val := Elt F) (e' := .f32) (cSRbuf m c) (rSlab l) = cSR m c l := by
  unfold cSRbuf; exact ld_stackSlab (cSR m c) l
/-- The kept ranks as the stack of their columns. -/
theorem cRRbuf_eq (c : Dev nD) :
    cRRbuf m c = View.canon (Val := Elt F) (e := .i32) (stack rCol (proRankr (iblk m c 1 tz) (iblk m c 2 tz)) 16 le_rfl) := by
  unfold cRRbuf; rw [show cRR m c = proRankr (iblk m c 1 tz) (iblk m c 2 tz) from by funext l; unfold cRR; with_reducible rfl]
/-- The kept soft sorts as the stack of their slabs. -/
theorem cSRbuf_eq (c : Dev nD) :
    cSRbuf m c = View.canon (Val := Elt F) (e := .f32) (stack rSlab (proSoft (iblk m c 1 tz) (iblk m c 2 tz)) 16 le_rfl) := by
  unfold cSRbuf; rw [show cSR m c = proSoft (iblk m c 1 tz) (iblk m c 2 tz) from by funext l; unfold cSR; with_reducible rfl]

/-- The embedding block the body leaves at point `t`. -/
def embAt (c : Dev nD) (t : Fin cfg0.N) : Vec F S1x512x128 .f32 := mEmb (iblk m c 0 t) (iblk m c 1 t) (cW m c) (cRR m c)
/-- The row of distances the body stores at point `t`. -/
def dlAt (c : Dev nD) (t : Fin cfg0.N) : Vec F S1x16 .f32 := mDl (iblk m c 0 t) (iblk m c 1 t) (cW m c) (cSR m c)

/-- The embeddings of the first point. -/
theorem embAt_tz (c : Dev nD) :
    mEmb (iblk m c 0 tz) (iblk m c 1 tz) (proW (iblk m c 2 tz)) (proRankr (iblk m c 1 tz) (iblk m c 2 tz)) = embAt m c tz := by
  unfold embAt cW; rw [show cRR m c = proRankr (iblk m c 1 tz) (iblk m c 2 tz) from by funext l; unfold cRR; with_reducible rfl]
/-- The row of distances of the first point. -/
theorem dlAt_tz (c : Dev nD) :
    mDl (iblk m c 0 tz) (iblk m c 1 tz) (proW (iblk m c 2 tz)) (proSoft (iblk m c 1 tz) (iblk m c 2 tz)) = dlAt m c tz := by
  unfold dlAt cW; rw [show cSR m c = proSoft (iblk m c 1 tz) (iblk m c 2 tz) from by funext l; unfold cSR; with_reducible rfl]
/-- The embeddings of a later point. -/
theorem embAt_later (c : Dev nD) (t : Fin cfg0.N) :
    mEmb (iblk m c 0 t) (iblk m c 1 t) (cW m c) (fun l => View.ld (Val := Elt F) (e' := .i32) (cRRbuf m c) (rCol l)) = embAt m c t := by
  unfold embAt; rw [show (fun l => View.ld (Val := Elt F) (e' := .i32) (cRRbuf m c) (rCol l)) = cRR m c from funext (ld_cRRbuf m c)]
/-- The row of distances of a later point. -/
theorem dlAt_later (c : Dev nD) (t : Fin cfg0.N) :
    mDl (iblk m c 0 t) (iblk m c 1 t) (cW m c) (fun l => View.ld (Val := Elt F) (e' := .f32) (cSRbuf m c) (rSlab l)) = dlAt m c t := by
  unfold dlAt; rw [show (fun l => View.ld (Val := Elt F) (e' := .f32) (cSRbuf m c) (rSlab l)) = cSR m c from funext (ld_cSRbuf m c)]

/-- The point that stores row `r` of the distances. -/
abbrev ptOf (r : Fin 8) : Fin cfg0.N := ⟨r.val, Nat.lt_of_lt_of_eq r.isLt N_0.symm⟩

/-- Rows up to `t` of the distances block hold their points' distances. -/
def RowsUpTo (c : Dev nD) (t : Fin cfg0.N) (X : Vec F S8x16 .f32) : Prop :=
  ∀ (b : Fin 8) (l : Fin 16), b.val ≤ t.val → X (ix2 b l) = dlAt m c (ptOf b) (ix2 0 l)

/-! ## The store of one row of distances -/

/-- The row of point `t` is stored at row `t`. -/
theorem off1_eq (t : Fin cfg0.N) : k0_off1 (grid0.coords t) = ![t.val, 0] := by
  have ht : t.val < 8 := Nat.lt_of_lt_of_eq t.isLt N_0
  have e0 : (grid0.coords t 0).val = t.val := (Pipeline.Grid.coords_val t 0 (S := 1) (B := 8) (by decide) rfl).trans (by show t.val / 1 % 8 = t.val; omega)
  unfold k0_off1
  simp only [e0, Scalar.indexCast]
  funext a
  match a with
  | 0 => show (BitVec.ofNat 32 t.val).toNat = t.val
         rw [BitVec.toNat_ofNat]; omega
  | 1 => rfl

/-- Storing point `t`'s row on top of the rows before it leaves all rows up to `t`. -/
theorem row_write (c : Dev nD) (t : Fin cfg0.N) (v : View sig .tc .vmem S8x16 .f32) (f : v.ty.Contents (Elt F))
    (w : Vec F S1x16 .f32) (hw : w = dlAt m c t)
    (hf : ∀ (b : Fin 8) (l : Fin 16), b.val < t.val → v.read (Elt F) f (ix2 b l) = dlAt m c (ptOf b) (ix2 0 l)) :
    RowsUpTo m c t (v.read (Elt F) (v.writes (Elt F) f [⟨Rect.unit (s := S8x16) (k0_off1 (grid0.coords t)) S1x16.size (k0_off1_inb (grid0.coords t)), w⟩])) := by
  subst hw
  intro b l hb
  rcases Nat.lt_or_ge b.val t.val with h | h
  · rw [View.read_writes_cons_unit_of_not_mem v f (k0_off1_inb (grid0.coords t)) (dlAt m c t) [] (ix2 b l) (off1_eq t) 0 (.inl h)]
    exact hf b l h
  · have e : b.val = t.val := by omega
    have e' : ptOf b = t := Fin.ext e
    rw [e']
    refine View.read_writes_cons_unit_of_mem v f (k0_off1_inb (grid0.coords t)) (dlAt m c t) [] (ix2 b l) (ix2 0 l) (off1_eq t) (fun a => ?_)
    match a with
    | 0 => show b.val = t.val + 0; omega
    | 1 => show l.val = 0 + l.val; omega

/-- Storing a whole buffer leaves what was stored. -/
theorem whole_write {s : Shape} {e : EltTy} (v : View sig .tc .vmem s e) (f : v.ty.Contents (Elt F))
    (off : Fin s.rank → ℕ) (inb) (w : s.Idx → Elt F e) (ho : ∀ a, off a = 0) :
    v.read (Elt F) (v.writes (Elt F) f [⟨Rect.unit (s := s) off s.size inb, w⟩]) = w := by
  funext y
  exact View.read_writes_cons_unit_of_mem v f inb w [] y y (off' := fun _ => 0) (funext ho) (fun a => (Nat.zero_add _).symm)

/-- The columns cover their buffer. -/
theorem cover_rCol (P : Fin 16 → S512x1.Idx → Elt F .i32) (y : S512x16.Idx) :
    ∃ p ∈ stack (Val := Elt F) (e := .i32) rCol P 16 le_rfl, y ∈ p.1.set :=
  View.cover_of_tiledL (stack (Val := Elt F) (e := .i32) rCol P 16 le_rfl) S512x1.size (by sl_kernel_rfl) y
/-- The slabs cover their buffer. -/
theorem cover_rSlab (P : Fin 16 → S1x512x512.Idx → Elt F .f32) (y : S16x512x512.Idx) :
    ∃ p ∈ stack (Val := Elt F) (e := .f32) rSlab P 16 le_rfl, y ∈ p.1.set :=
  View.cover_of_tiledL (stack (Val := Elt F) (e := .f32) rSlab P 16 le_rfl) S1x512x512.size (by sl_kernel_rfl) y

/-- A buffer all of whose columns were stored reads as the stack of them. -/
theorem read_stackCol (v : View sig .tc .vmem S512x16 .i32) (f : v.ty.Contents (Elt F)) (P : Fin 16 → S512x1.Idx → Elt F .i32) :
    v.read (Elt F) (v.writes (Elt F) f (stack rCol P 16 le_rfl)) = View.canon (Val := Elt F) (e := .i32) (stack rCol P 16 le_rfl) :=
  funext fun y => View.read_writes_apply_eq_canon v f y _ (cover_rCol P y)
/-- A buffer all of whose slabs were stored reads as the stack of them. -/
theorem read_stackSlab (v : View sig .tc .vmem S16x512x512 .f32) (f : v.ty.Contents (Elt F)) (P : Fin 16 → S1x512x512.Idx → Elt F .f32) :
    v.read (Elt F) (v.writes (Elt F) f (stack rSlab P 16 le_rfl)) = View.canon (Val := Elt F) (e := .f32) (stack rSlab P 16 le_rfl) :=
  funext fun y => View.read_writes_apply_eq_canon v f y _ (cover_rSlab P y)

/-! ## The region invariant -/

/-- Before the first point the class's invariant; afterwards the carried scratch at the directions, the rank columns and
    the soft permutations of the reference, every other scratch at anything. -/
def PhiS (c : Dev nD) : (n : ℕ) → n ≤ cfg0.N → sProp 𝕄
  | 0, _ => Pipeline.ΦA spec0 c
  | n + 1, hn => iprop(iprop(owns (c : Thread nD τ) scM0_0 fullShare (cW m c) ∗ owns (c : Thread nD τ) scM0_1 fullShare (cRRbuf m c) ∗ owns (c : Thread nD τ) scM0_2 fullShare (cSRbuf m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

/-- Before the first point nothing is kept. -/
theorem PhiS_zero (c : Dev nD) (n : ℕ) (h : n ≤ cfg0.N) (hz : n = 0) : PhiS m c n h = Pipeline.ΦA spec0 c := by
  subst hz; rfl

/-- After a point the kept buffers are at their contents. -/
theorem PhiS_succ (c : Dev nD) (n : ℕ) (hn : n < cfg0.N) :
    PhiS m c (n + 1) hn = iprop(iprop(owns (c : Thread nD τ) scM0_0 fullShare (cW m c) ∗ owns (c : Thread nD τ) scM0_1 fullShare (cRRbuf m c) ∗ owns (c : Thread nD τ) scM0_2 fullShare (cSRbuf m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

/-- Before any later point the kept buffers are at their contents. -/
theorem PhiS_pos (c : Dev nD) (n : ℕ) (h : n ≤ cfg0.N) (hz : n ≠ 0) :
    PhiS m c n h = iprop(iprop(owns (c : Thread nD τ) scM0_0 fullShare (cW m c) ∗ owns (c : Thread nD τ) scM0_1 fullShare (cRRbuf m c) ∗ owns (c : Thread nD τ) scM0_2 fullShare (cSRbuf m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-! ## The proof data -/

/-- The window held to a relation: the distances. -/
def marked : Fin 5 → Bool := fun w => w.val == 4

/-- What the body leaves in the distances window at point `t`. -/
def Rl0 (c : Dev nD) : (w : Fin cfg0.W) → Fin cfg0.N → ((cfg0.win w).block.Idx → Elt F (cfg0.win w).elt) → Prop := fun w t X =>
  match w with
  | ⟨0, _⟩ => True
  | ⟨1, _⟩ => True
  | ⟨2, _⟩ => True
  | ⟨3, _⟩ => True
  | ⟨4, _⟩ => RowsUpTo m c t X

/-- The proof data: inputs at their blocks, the embedding window at `embAt`, the distances window held to `Rl0` only. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => embAt m c t
    | ⟨4, h⟩ => Pipeline.Dat.unnamed (cfg := cfg0) ⟨4, h⟩ t
  Φ t := PhiS m c t.val (Nat.le_of_lt_succ t.isLt)
  q _ := fullShare
  owed _ := 0

/-- The arrays of the data are those the region is entered with. -/
theorem A_eq (c : Dev nD) (w : Fin cfg0.W) : (dats m 0 c).A w = V m c (Pipeline.arrRef spec0 w) := by
  dsimp only [dats]

/-- The invariant at a point, by the number of the point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The batch window is left as it was. -/
theorem after0_0 (c : Dev nD) (t : Fin cfg0.N) : (dats m 0 c).after 0 t = iblk m c 0 t := by dsimp only [dats]
/-- The reference window is left as it was. -/
theorem after0_1 (c : Dev nD) (t : Fin cfg0.N) : (dats m 0 c).after 1 t = iblk m c 1 t := by dsimp only [dats]
/-- The weight window is left as it was. -/
theorem after0_2 (c : Dev nD) (t : Fin cfg0.N) : (dats m 0 c).after 2 t = iblk m c 2 t := by dsimp only [dats]
/-- The embedding window is left at the point's embeddings. -/
theorem after0_3 (c : Dev nD) (t : Fin cfg0.N) : (dats m 0 c).after 3 t = embAt m c t := by dsimp only [dats]

/-- The batch window holds its block. -/
theorem before0_0 (c : Dev nD) (t : Fin cfg0.N) (d) : (dats m 0 c).before 0 t d = iblk m c 0 t :=
  before0_0_of m (dats m 0 c) (A_eq m c 0) (after0_0 m c) t d
/-- The reference window holds its block. -/
theorem before0_1 (c : Dev nD) (t : Fin cfg0.N) (d) : (dats m 0 c).before 1 t d = iblk m c 1 t :=
  before0_1_of m (dats m 0 c) (A_eq m c 1) (after0_1 m c) t d
/-- The weight window holds its block. -/
theorem before0_2 (c : Dev nD) (t : Fin cfg0.N) (d) : (dats m 0 c).before 2 t d = iblk m c 2 t :=
  before0_2_of m (dats m 0 c) (A_eq m c 2) (after0_2 m c) t d

/-- The distances window is found, after the first point, as the point before left it: its rows so far in place. -/
theorem finds_rows (c : Dev nD) (t : Fin cfg0.N) (ht : t.val ≠ 0) (Y : Vec F S8x16 .f32)
    (hY : ((dats m 0 c).toRRel marked (Rl0 m c)).Finds 4 t Y) :
    ∀ (b : Fin 8) (l : Fin 16), b.val < t.val → Y (ix2 b l) = dlAt m c (ptOf b) (ix2 0 l) := by
  have hN : t.val < 8 := lt_of_lt_of_eq t.isLt (show cfg0.N = 8 from N_0)
  have hf : (cfg0.win 4).fetch t = false := rfl
  rw [Pipeline.RDat.finds_of_pos _ hf ht] at hY
  rcases hY with h | h
  · have := (flush0_4 _).mp h
    exfalso; simp only at this; omega
  · have hR := (dats m 0 c).toRRel_leaves (fgt := marked) (Rl := Rl0 m c) (w := 4) rfl h
    intro b l hb
    exact hR b l (by show b.val ≤ t.val - 1; omega)

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜((dats m 0 c).toRRel marked (Rl0 m c)).Finds 4 t Y⌝ ∗ owns (c : Thread nD τ) (ms0_4 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜RowsUpTo m c t X⌝ ∗ owns (c : Thread nD τ) (ms0_4 t) fullShare X))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The scratch as found gives the invariant at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant at the end gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨⟨HS0, HS1, HS2, HSR⟩, Hg⟩
  isplitr [Hg]
  · isplitl [HS0]
    · iexists _; iexact HS0
    isplitl [HS1]
    · iexists _; iexact HS1
    isplitl [HS2]
    · iexists _; iexact HS2
    iexact HSR
  iexact Hg

end Cert.KernelIdeal.Hand

end
-- ==== Proof.Run.Body.lean ====
module

public import proofs.«01_k».proof.Proof.Run.Data
public import Idealize.ShloMosaic.Lib.Pipeline.FrameBody

/-! The body obligation: the body at any point, from what the data say it finds to what they say it leaves. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000 in
/-- The body at the first point. -/
theorem sound_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 8 := lt_of_lt_of_eq t.isLt (show cfg0.N = 8 from N_0)
  have h0 : t.val % 8 = 0 := by omega
  obtain rfl : t = tz := Fin.ext hz
  rw [PhiS_castSucc m c tz, PhiS_zero m c _ _ hz, PhiA0_eq]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%Y, %hY, H4⟩⟩
  iapply ((runA c (grid0.coords tz) _ (hs0_0 tz) _ (hs0_1 tz) _ (hs0_2 tz) _ (hs0_3 tz) _ (hs0_4 tz) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 tz).mpr h0) (iblk m c 0 tz) (iblk m c 1 tz) (iblk m c 2 tz) Y).2.2.2.2.2 Set.univ _)
  isplitl [H0]; · iexact H0
  isplitl [H1]; · iexact H1
  isplitl [H2]; · iexact H2
  isplitl [H3]; · iexists _; iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%e3, H3⟩, H4, ⟨%es0, HS0⟩, ⟨%es1, HS1⟩, ⟨%es2, HS2⟩, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr
        swap; · iexact HS0
        ipureintro; rw [runA_dir]; exact whole_write _ _ _ _ _ (fun a => by fin_cases a <;> rfl)
      isplitl [HS1]
      · unfold owns; iexists _; isplitr
        swap; · iexact HS1
        ipureintro; rw [runA_rankr]; exact (read_stackCol _ _ _).trans (cRRbuf_eq m c).symm
      isplitl [HS2]
      · unfold owns; iexists _; isplitr
        swap; · iexact HS2
        ipureintro; rw [runA_soft]; exact (read_stackSlab _ _ _).trans (cSRbuf_eq m c).symm
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; rw [runA_emb]; exact (whole_write _ _ _ _ _ (fun a => by fin_cases a <;> rfl)).trans (embAt_tz m c)
  unfold owns; iexists _; isplitr
  swap
  · iexists _; isplitr
    swap; · iexact H4
    ipureintro; rfl
  ipureintro; rw [runA_dl]
  exact row_write m c tz _ _ _ (dlAt_tz m c) (fun b l hb => absurd hb (Nat.not_lt_zero _))

set_option maxHeartbeats 400000 in
/-- The body at a later point. -/
theorem sound_later (c : Dev nD) (t : Fin cfg0.N) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 8 := lt_of_lt_of_eq t.isLt (show cfg0.N = 8 from N_0)
  have h0 : ¬ t.val % 8 = 0 := by omega
  rw [PhiS_castSucc m c t, PhiS_pos m c _ _ hz]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%Y, %hY, H4⟩⟩
  iapply ((runB c (grid0.coords t) _ (hs0_0 t) _ (hs0_1 t) _ (hs0_2 t) _ (hs0_3 t) _ (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) Y (cW m c) (cRRbuf m c) (cSRbuf m c)).2.2 Set.univ _)
  isplitl [H0]; · iexact H0
  isplitl [H1]; · iexact H1
  isplitl [H2]; · iexact H2
  isplitl [H3]; · iexists _; iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%e3, H3⟩, H4, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; rw [runB_emb]
    exact (whole_write _ _ _ _ _ (fun a => by fin_cases a <;> rfl)).trans (embAt_later m c t)
  unfold owns; iexists _; isplitr
  swap
  · iexists _; isplitr
    swap; · iexact H4
    ipureintro; rfl
  ipureintro; rw [runB_dl]
  refine row_write m c t _ _ _ ?_ (fun b l hb => ?_)
  · exact dlAt_later m c t
  · rw [(hs0_4 t).read_unread]; exact finds_rows m c t hz Y hY b l hb

/-- The body at any point. -/
theorem sound_body (c : Dev nD) (t : Fin cfg0.N) :
    bodyPre m c t ⊢ wp frame (wpE (defs₀ (F := F)) Variants.none c none) Set.univ (bodyAt0 t) (fun _ => bodyPost m c t) :=
  if hz : t.val = 0 then sound_first m c t hz else sound_later m c t hz

/-- The body obligation, the distances window held to its rows. -/
theorem body_obligation (c : Dev nD) : Pipeline.BodyObligationRel (dats (F := F) m 0 c) (defs₀ (F := F)) Variants.none () Set.univ marked (Rl0 m c) := fun t => by
  rw [bigSep_W0, bigSep_W0, defs₀_row]
  exact triple_restated (sound_body m c t) rfl .rfl fun _ => .rfl

end Cert.KernelIdeal.Hand

end
-- ==== Proof.Run.Tail.lean ====
module

public import Idealize.ShloMosaic.Lib.Pipeline.FrameSuffix

/-! A launch whose @main goes on after the region with host lines, of relational proof data, the lines' results kept:
    whatever the arrays may hold at the exit, the other buffers hold the lines' results over those contents. -/

@[expose] public section

noncomputable section

namespace Cert.KernelIdeal.Hand

open Idealize.ShloMosaic Idealize.ShloMosaic.Pipeline Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ₀ : Idealize.SL.Sem.Labels} [∀ e, Nonempty (Val e)]

local notation "𝕄" => MT nD τ sig Unit Val ℕ (UR sig nD τ) ℕ

section Arrays
variable {cfg : Cfg sig Λ₀} {c : Dev nD} (rd : RDat τ Val Unit ℕ (UR sig nD τ) ℕ cfg c)

/-- The arrays at what they may hold are the arrays at SOME contents each of which they may hold. -/
theorem arraysAt_open (n : ℕ) : (rd.arraysAt n : sProp 𝕄) ⊢ iprop(∃ A, ⌜∀ w, rd.ArrAt w n (A w)⌝ ∗ rd.arrays A) := by
  classical
  unfold RDat.arraysAt RDat.arrays
  refine (BI.bigSep_exists_pi Finset.univ (fun w G => iprop(⌜rd.ArrAt w n G⌝
    ∗ ((cfg.win w).arr.view.loc (c.tc : Thread nD τ) ↦[(cfg.win w).arr.view.set]{rd.share w} G)))).trans ?_
  iintro ⟨%A, H⟩
  ihave H' := (BI.bigSep_pure_sep Finset.univ (fun w => rd.ArrAt w n (A w))
    (fun w => ((cfg.win w).arr.view.loc (c.tc : Thread nD τ) ↦[(cfg.win w).arr.view.set]{rd.share w} A w))) $$ H
  icases H' with ⟨%h, H⟩
  iexists A; isplitr
  · ipureintro; exact fun w => h w (Finset.mem_univ w)
  iexact H

/-- And back. -/
theorem arraysAt_close (n : ℕ) (A : (w : Fin cfg.W) → Buf Val ((cfg.win w).arr.view.loc (c.tc : Thread nD τ)))
    (h : ∀ w, rd.ArrAt w n (A w)) : (rd.arrays A : sProp 𝕄) ⊢ rd.arraysAt n := by
  unfold RDat.arraysAt RDat.arrays
  refine BI.bigSep_mono fun w _ => ?_
  show (((cfg.win w).arr.view.loc (c.tc : Thread nD τ) ↦[(cfg.win w).arr.view.set]{rd.share w} A w : sProp 𝕄)
    ⊢ iprop(∃ G, ⌜rd.ArrAt w n G⌝ ∗ ((cfg.win w).arr.view.loc (c.tc : Thread nD τ) ↦[(cfg.win w).arr.view.set]{rd.share w} G)))
  iintro H; iexists (A w); isplitr
  · ipureintro; exact h w
  iexact H

end Arrays

variable {P : Type} [Fintype P] [DecidableEq P] (pcs : P → PCfg sig Λ₀ Val) (a : (p : P) → (pcs p).Adm) (p : P)
  (kit : PLaunchFacts (nD := nD) (τ := τ) pcs p) (defs₀ : Defs nD τ sig Val Λ₀) (𝒱₀ : Variants)

include kit in
set_option maxHeartbeats 1000000 in
/-- The run: every array at something it may hold after every write-back; every other unscoped buffer at the host lines'
    result over arrays at something they may hold; every counter at zero. -/
theorem run_tail (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Pipeline.Sig Λ₀ P fun p => (pcs p).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g) (fun r =>
      (∀ c, (∀ w, (rdat c).ArrAt w (pin pcs a p).N (r.2.mem (((pin pcs a p).spec w).arr.view.loc (c.tc : Thread nD τ))))
        ∧ ∃ A, (∀ w, (rdat c).ArrAt w (pin pcs a p).N (A w)) ∧ ∀ b ∈ restRefsP sig (pcs p).pre (pin pcs a p).spec,
            r.2.mem ((c.tc : Thread nD τ).loc b)
              = StableHlo.after opss.flatten (withArrays (pin pcs a p).spec c (V₀ c) A) (Proc.devRef .tc b))
      ∧ r.2.sem = fun _ => 0) := by
  classical
  have k₀ := kit.to₀
  have hq : ∀ c w, ((pin pcs a p).spec w).isOut = false → (rdat c).q w = shareOf (pin pcs a p).spec w :=
    fun c w hw => (rdat c).q_eq_shareOf_of_share_full kit.win.arr_inj (hshare c) w hw
  refine RDat.θ_run_region_pf_tail_quiescent pcs a (RDat.familyOf pcs a p rdat) () (k₀.cellOf_inj a) p k₀.win
    (OwnSemFacts.none (pin pcs a p).spec) k₀.pre emb₁ defs₀ 𝒱₀ m g main (fun _ => chain (opss.map StableHlo.seq))
    (fun c => by rw [RDat.familyOf_self]; exact hbody c) k₀.block_pos k₀.arr_whole k₀.stage_whole
    (fun c t => by rw [RDat.familyOf_self]; exact howed c t) (G := fun _ => iprop(emp))
    (u₀ := initOf (cells (pin pcs a) (k₀.cellOf_inj a)) (launchToks (pin pcs a) (k₀.cellOf_inj a))) (hu₀ := ?_)
    (V := fun c b => V₀ c (Proc.devRef .tc b)) (hmain := hmain)
    (hsplit := fun c => by
      rw [RDat.familyOf_self]; exact (rdat c).arrays_split_shared k₀.sharedIn k₀.arr_whole (hq c) _ _ (hA c))
    (hpf := hpf) (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c
      (fun b => V₀ c (Proc.devRef .tc b)))
    (Z' := fun c => iprop(∃ A, ⌜∀ w, (rdat c).ArrAt w (pin pcs a p).N (A w)⌝
      ∗ unscopedRestP (Ix := Unit) (Name := ℕ) (U := UR sig nD τ) (Lvl := ℕ) (pcs p).pre (pin pcs a p).spec c
          (fun b => StableHlo.after opss.flatten (withArrays (pin pcs a p).spec c (V₀ c) A) (Proc.devRef .tc b))))
    (hX := ?_) (hin := ?_) (hout := ?_) (htail := ?_)
    (QY := fun c s => ∃ A, (∀ w, (rdat c).ArrAt w (pin pcs a p).N (A w)) ∧ ∀ b ∈ restRefsP sig (pcs p).pre (pin pcs a p).spec,
      s.mem ((c.tc : Thread nD τ).loc b)
        = StableHlo.after opss.flatten (withArrays (pin pcs a p).spec c (V₀ c) A) (Proc.devRef .tc b))
    (hY := ?_) (hQ := ?_)
  · iintro Hu; imodintro
    isplitl [Hu]
    · iapply (show (ownU _ : sProp 𝕄) ⊢ BI.own (emb₁ (initOf (cells (pin pcs a) (k₀.cellOf_inj a)) (launchToks (pin pcs a) (k₀.cellOf_inj a)))) from .rfl)
      iexact Hu
    iapply (show (BI.emp : sProp 𝕄) ⊢ bigSep Finset.univ (fun _ : Dev nD => (BI.emp : sProp 𝕄)) from by rw [BI.bigSep_emp_const])
    iempintro
  · intro c
    iintro ⟨HU, -, -, Hp, -⟩; imodintro
    isplitl [Hp]
    · iexists _; iexact Hp
    iexact HU
  · intro c
    rw [RDat.familyOf_self]
    refine BIBase.Entails.trans ?_ (hin c)
    unfold ΦA ΦT
    iintro ⟨Hp, Ht, Hr⟩
    isplitr [Ht]
    · isplitl [Hr] <;> iassumption
    · iexact Ht
  · intro c
    rw [RDat.familyOf_self, ownSems0_none]
    refine (hout c).trans ?_
    unfold ΦA
    iintro ⟨Hr, Hp⟩
    isplitl [Hp]; · iexact Hp
    isplitr; · iempintro
    iexact Hr
  · intro c Q'
    rw [RDat.familyOf_self]
    iintro ⟨Hk, Hb, Ha, HZ⟩
    ihave Ha' := (arraysAt_open (rdat c) (pin pcs a p).N) $$ Ha
    icases Ha' with ⟨%A, %h, Ha⟩
    have e : (rdat c).arrays A = arrBufs (pin pcs a p).spec c (fun b => withArrays (pin pcs a p).spec c (V₀ c) A (Proc.devRef .tc b)) :=
      ((rdat c).arrBufs_eq_arrays k₀.sharedIn k₀.arr_whole (hq c) _ A fun w =>
        (withArrays_arr (pin pcs a p).spec kit.win.arr_inj c (V₀ c) A w).symm).symm
    iapply (tail_seqs_bufs_b pcs defs₀ 𝒱₀ (pcs p).pre (pin pcs a p).spec c (V₀ c) A opss hsub hfresh hkeep Q')
    isplitl [Hk]
    · iintro ⟨Hb2, Ha2, Hu⟩
      iapply Hk
      isplitl [Hb2]; · iexact Hb2
      isplitl [Ha2]
      · iapply (arraysAt_close (rdat c) (pin pcs a p).N A h); iapply (Entails.of_eq e.symm); iexact Ha2
      iexists A; isplitr
      · ipureintro; exact h
      iexact Hu
    isplitl [Hb]; · iexact Hb
    isplitl [Ha]
    · iapply (Entails.of_eq e); iexact Ha
    iexact HZ
  · intro c s
    iintro ⟨-, HZ, HS⟩
    icases HZ with ⟨%A, %h, HZ⟩
    unfold unscopedRestP
    ihave HZ' := (pointsTo_read_all (restRefsP sig (pcs p).pre (pin pcs a p).spec) (fun b => (c.tc : Thread nD τ).loc b)
      (fun b => StableHlo.after opss.flatten (withArrays (pin pcs a p).spec c (V₀ c) A) (Proc.devRef .tc b)) s) $$ [HZ HS]
    · isplitl [HZ] <;> iassumption
    icases HZ' with ⟨%hZ, HS⟩
    imodintro
    isplitr
    · ipureintro; exact ⟨A, h, hZ⟩
    iexact HS
  · intro s h hz
    exact ⟨fun c => ⟨fun w => by simpa only [RDat.familyOf_self] using (h c).1 w, (h c).2.2⟩, hz⟩

end Cert.KernelIdeal.Hand

end
-- ==== Proof.Run.Launch.lean ====
module

public import proofs.«01_k».proof.Proof.Run.Body
public import proofs.«01_k».proof.Proof.Run.Tail
public import Idealize.ShloMosaic.Lib.Pipeline.ArrRel
public import Idealize.ShloMosaic.Lib.Pipeline.ValueKit

/-! What the run of the kernel leaves in its two results. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result of the kernel, batch element by batch element. -/
def embArr (c : Dev nD) : Vec F S8x512x128 .f32 := fun i => embAt m c (ptOf (i 0)) (ix3 0 (i 1) (i 2))

/-- The rows of distances the region leaves, one per batch element. -/
def dlArr (c : Dev nD) : Vec F S8x16 .f32 := fun i => dlAt m c (ptOf (i 0)) (ix2 0 (i 1))

/-- The second result: those rows added up. -/
def dlSum (c : Dev nD) : Vec F S16 .f32 :=
  Host.reduceAdd (dlArr m c) (constant S_ .f32 0x00000000#32) reducesTo_S8x16_S16_d0 h_S_

/-- The relational data of the launch. -/
abbrev rdat (c : Dev nD) := (dats (F := F) m 0 c).toRRel marked (Rl0 m c)

/-- An input array is at the end what it was. -/
theorem arr_in (c : Dev nD) (w : Fin cfg0.W) (hw : (cfg0.win w).isOut = false) (G) (h : (rdat m c).ArrAt w cfg0.N G) :
    G = V m c (Pipeline.arrRef spec0 w) := by
  rw [Pipeline.RDat.ArrAt_in (rdat m c) w hw cfg0.N] at h
  exact h.trans (A_eq m c w)

/-- The embedding window's block at a point: batch element the point's number. -/
theorem index0_3 : ∀ t : Fin cfg0.N, win0_3.index t 0 = t.val ∧ win0_3.index t 1 = 0 ∧ win0_3.index t 2 = 0 := by decide +kernel

/-- The embedding array is at the end the blocks the points left. -/
theorem arr_emb (c : Dev nD) (G : Vec F S8x512x128 .f32) (h : (rdat m c).ArrAt 3 cfg0.N G) : G = embArr m c := by
  obtain ⟨X, hX, hA⟩ := h.exists_exact
  have e := hA (Function.update (fun _ _ _ => Classical.arbitrary _) 3 X) fun u _ _ => by rw [Function.update_self]
  rw [e]
  refine Pipeline.Dat.arrAt_eq_of_covers _ 3 _ (by decide +kernel) fun t hf y => ?_
  rw [Pipeline.RDat.withAfter_after, Function.update_self]
  have hL := hX t t.isLt hf
  obtain ⟨Y, -, hL⟩ := hL
  rw [(dats m 0 c).toRRel_after_of_eq_false (fgt := marked) (w := 3) rfl] at hL
  have hL' : X t = embAt m c t := hL
  rw [hL']
  unfold embArr
  blk_simp
  have hy0 : (y 0).val = 0 := Nat.lt_one_iff.mp (y 0).isLt
  have h0 : ((win0_3.blk t).view.emb y 0).val = t.val := by
    have := index0_3 t; blk_simp; omega
  have h1 : ((win0_3.blk t).view.emb y 1).val = (y 1).val := by
    have := index0_3 t; blk_simp; omega
  have h2 : ((win0_3.blk t).view.emb y 2).val = (y 2).val := by
    have := index0_3 t; blk_simp; omega
  have ht : ptOf ((win0_3.blk t).view.emb y 0) = t := Fin.ext h0
  rw [ht]
  refine congrArg (embAt m c t) ?_
  funext a
  fin_cases a
  · exact Fin.ext hy0
  · exact Fin.ext h1.symm
  · exact Fin.ext h2.symm

/-- The distances array is at the end the rows the points left. -/
theorem arr_dl (c : Dev nD) (G : Vec F S8x16 .f32) (h : (rdat m c).ArrAt 4 cfg0.N G) : G = dlArr m c := by
  obtain ⟨X, hX, hG⟩ := h.emb_eq_of_wholeAt (t₀ := t0_7) (by decide +kernel)
  have hR := (dats m 0 c).toRRel_leaves (fgt := marked) (Rl := Rl0 m c) (w := 4) rfl hX
  funext i
  have h1 := hG i
  obtain ⟨b, l, rfl⟩ : ∃ (b : Fin 8) (l : Fin 16), i = ix2 b l := ⟨i 0, i 1, by funext a; fin_cases a <;> rfl⟩
  have h2 := hR b l (Nat.le_of_lt_succ b.isLt)
  refine Eq.trans ?_ h2
  blk_simp at h1
  exact h1

set_option backward.isDefEq.respectTransparency.types false in
set_option maxHeartbeats 800000 in
/-- The launch. -/
theorem run_launch : θ_run defs (onTc (τ := τ) (main (F := F))) (s₀ m ρ) (fun r =>
      (∀ c, (∀ w, (rdat m c).ArrAt w cfg0.N (r.2.mem ((spec0 w).arr.view.loc (c.tc : Thread nD τ))))
        ∧ ∃ A, (∀ w, (rdat m c).ArrAt w cfg0.N (A w)) ∧ ∀ b ∈ Pipeline.restRefsP sig Pipeline.Prefetch.none spec0,
            r.2.mem ((c.tc : Thread nD τ).loc b)
              = StableHlo.after (List.flatten [hostOps1]) (Pipeline.withArrays spec0 c (V0 m c) A) (Proc.devRef .tc b))
      ∧ r.2.sem = fun _ => 0) :=
  run_tail (fun q => (cfgs q).toPCfg (Val := Elt F)) (fun q => (cfgs q).toPCfg_adm) (0 : Fin 1) launch0.toP defs₀ Variants.none
    (rdat m) m ρ main (fun c => (body_obligation m c).toRRel) (fun c => (rdat m c).share_full fun _ => rfl) (fun _ _ => rfl)
    (V0 m) [hostOps1] sfx_sub sfx_fresh sfx_keeps (hmain m Variants.none) (A_eq m) (fun _ k => k.elim0)
    (fun c => (show _ ⊢ Pipeline.ΦA spec0 c from by iintro ⟨H, -⟩; iexact H).trans (hin m c)) (hout m)

/-- The arrays at the end, and the sum of the rows. -/
theorem run_value : θ_run defs (onTc (τ := τ) (main (F := F))) ⟨m, fun _ => 0, ρ⟩ (fun r => (∀ c : Dev nD,
      r.2.mem ((c.tc : Thread nD τ).loc main_v0_0) = embArr m c
      ∧ r.2.mem ((c.tc : Thread nD τ).loc main_v1) = dlSum m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ?_) (run_launch m ρ)
  refine ⟨fun c => ?_, h.2⟩
  obtain ⟨hw, A, hA, hb⟩ := h.1 c
  refine ⟨arr_emb m c _ (hw 3), ?_, arr_in m c 0 rfl _ (hw 0), arr_in m c 1 rfl _ (hw 1), arr_in m c 2 rfl _ (hw 2)⟩
  refine (hb main_v1 (by decide)).trans ?_
  have e4 := arr_dl m c _ (hA 4)
  have hw4 := Pipeline.withArrays_arr spec0 launch0.win.arr_inj c (V0 m c) A 4
  simp only [List.flatten_cons, List.flatten_nil, List.append_nil, hostOps1, StableHlo.after_cons, StableHlo.after_nil]
  rw [StableHlo.binary_result]
  rw [StableHlo.nullary_result, StableHlo.nullary_result_ne _ _ _ _ (by decide)]
  have e : Pipeline.withArrays spec0 c (V0 m c) A (Proc.tc.devRef main_v0_1) = dlArr m c := hw4.trans e4
  rw [e]
  rfl

/-- The batch window's block at a point is that batch element. -/
theorem iblk_X (c : Dev nD) (b : Fin 8) (n : Fin 512) (d : Fin 128) :
    iblk m c 0 (ptOf b) (ix3 0 n d) = m ((c.tc : Thread nD τ).loc main_arg0) (ix3 b n d) := by
  have h : ∀ t : Fin cfg0.N, win0_0.index t 0 = t.val ∧ win0_0.index t 1 = 0 ∧ win0_0.index t 2 = 0 := by decide +kernel
  have h0 := (h (ptOf b)).1
  have h1 := (h (ptOf b)).2
  blk_ext [iblk, V]

/-- The reference's block at every point is the reference. -/
theorem iblk_R (c : Dev nD) (t : Fin cfg0.N) (r : Fin 512) (d : Fin 128) :
    iblk m c 1 t (ix2 r d) = m ((c.tc : Thread nD τ).loc main_arg1) (ix2 r d) := by
  have h : ∀ t : Fin cfg0.N, win0_1.index t 0 = 0 ∧ win0_1.index t 1 = 0 := by decide +kernel
  have := h t
  blk_ext [iblk, V]

/-- The weight rows' block at every point is the weight rows. -/
theorem iblk_W (c : Dev nD) (t : Fin cfg0.N) (l : Fin 16) (d : Fin 128) :
    iblk m c 2 t (ix2 l d) = m ((c.tc : Thread nD τ).loc main_arg2) (ix2 l d) := by
  have h : ∀ t : Fin cfg0.N, win0_2.index t 0 = 0 ∧ win0_2.index t 1 = 0 := by decide +kernel
  have := h t
  blk_ext [iblk, V]

end Cert.KernelIdeal.Hand

end
-- ==== Proof.Run.ValK.lean ====
module
public import proofs.«01_k».proof.Proof.Run.ReadK
public import proofs.«01_k».proof.Proof.Run.Launch

/-! The kernel's two results at the ideal instance, entry by entry, from its three arguments. -/

@[expose] public section

set_option maxRecDepth 16384

noncomputable section

namespace Cert.KernelIdeal.Hand

open Cert.KernelIdeal.Gen Cert.Spec Cert.Ranks
open Idealize.ShloMosaic Idealize.ShloMosaic.TcCoe
open scoped BigOperators

section point

variable (x0 : Vec Ideal S1x512x128 .f32) (x1 y1 : Vec Ideal S512x128 .f32) (x2 : Vec Ideal S16x128 .f32)
variable (X R : Fin 512 → Fin 128 → EReal) (W : Fin 16 → Fin 128 → EReal)

/-- The points' projections, as a column and as a row. -/
theorem colX_at (hX : ∀ n d, x0 (ix3 0 n d) = X n d) (hW : ∀ l d, x2 (ix2 l d) = W l d) (l : Fin 16) (n : Fin 512) :
    colOf l (k0_pay108 (k0_pay105 x0) (proW x2)) (ix2 n 0) = proj X W l n := by
  have e : (fun l d => x2 (ix2 l d)) = W := funext fun l => funext fun d => hW l d
  refine (col_at l n _ _).trans (Finset.sum_congr rfl fun d _ => ?_)
  rw [k105_at, proW_at, hX, e]
@[inherit_doc colX_at]
theorem rowX_at (hX : ∀ n d, x0 (ix3 0 n d) = X n d) (hW : ∀ l d, x2 (ix2 l d) = W l d) (l : Fin 16) (n : Fin 512) :
    rowOf l (k0_pay109 (k0_pay105 x0) (proW x2)) (ix2 0 n) = proj X W l n := by
  have e : (fun l d => x2 (ix2 l d)) = W := funext fun l => funext fun d => hW l d
  refine (row_at l n _ _).trans (Finset.sum_congr rfl fun d _ => ?_)
  rw [k105_at, proW_at, hX, e]

/-- The reference points' projections, as a column and as a row. -/
theorem colR_at' (hR : ∀ n d, y1 (ix2 n d) = R n d) (hW : ∀ l d, x2 (ix2 l d) = W l d) (l : Fin 16) (n : Fin 512) :
    colOf l (proR y1 x2) (ix2 n 0) = proj R W l n := by
  have e : (fun l d => x2 (ix2 l d)) = W := funext fun l => funext fun d => hW l d
  have e' : (fun l d => y1 (ix2 l d)) = R := funext fun l => funext fun d => hR l d
  rw [colR_at, e, e']
@[inherit_doc colR_at']
theorem rowR_at' (hR : ∀ n d, y1 (ix2 n d) = R n d) (hW : ∀ l d, x2 (ix2 l d) = W l d) (l : Fin 16) (n : Fin 512) :
    rowOf l (k0_pay6 y1 x2) (ix2 0 n) = proj R W l n := by
  have e : (fun l d => x2 (ix2 l d)) = W := funext fun l => funext fun d => hW l d
  have e' : (fun l d => y1 (ix2 l d)) = R := funext fun l => funext fun d => hR l d
  rw [rowR_at, e, e']

/-- The points' ranks. -/
theorem mRank_at (hX : ∀ n d, x0 (ix3 0 n d) = X n d) (hW : ∀ l d, x2 (ix2 l d) = W l d) (l : Fin 16) (n : Fin 512) :
    mRank x0 (proW x2) l (ix2 0 n) = BitVec.ofNat 32 (rk (proj X W l) n) :=
  rankStore_at _ _ _ (fun i => colX_at x0 x2 X W hX hW l i) (fun i => rowX_at x0 x2 X W hX hW l i) n

/-- The reference points' ranks. -/
theorem proRankr_at (hR : ∀ n d, y1 (ix2 n d) = R n d) (hW : ∀ l d, x2 (ix2 l d) = W l d) (l : Fin 16) (n : Fin 512) :
    proRankr y1 x2 l (ix2 n 0) = BitVec.ofNat 32 (rk (proj R W l) n) :=
  rankrOp_at _ _ _ (fun i => colR_at' y1 x2 R W hR hW l i) (fun i => rowR_at' y1 x2 R W hR hW l i) n

/-- The reference points' soft sort. -/
theorem proSoft_at (hR : ∀ n d, y1 (ix2 n d) = R n d) (hW : ∀ l d, x2 (ix2 l d) = W l d) (l : Fin 16) (i n : Fin 512) :
    proSoft y1 x2 l (ix3 0 i n) = soft (proj R W l) i n :=
  softROp_at _ _ _ (fun i => rowR_at' y1 x2 R W hR hW l i)
    (fun i => rankOp_at _ _ _ (fun i => colR_at' y1 x2 R W hR hW l i) (fun i => rowR_at' y1 x2 R W hR hW l i) i) i n

/-- The points' soft sort. -/
theorem mSoft_at (hX : ∀ n d, x0 (ix3 0 n d) = X n d) (hW : ∀ l d, x2 (ix2 l d) = W l d) (l : Fin 16) (i n : Fin 512) :
    mSoft x0 (proW x2) l (ix3 0 i n) = soft (proj X W l) i n :=
  softXOp_at _ _ _ (fun i => rowX_at x0 x2 X W hX hW l i) (fun i => mRank_at x0 x2 X W hX hW l i) i n

/-- The distances. -/
theorem mCost_at (hX : ∀ n d, x0 (ix3 0 n d) = X n d) (hR : ∀ n d, x1 (ix2 n d) = R n d) (i n : Fin 512) :
    k0_pay106 x1 x0 (ix2 i n) = cost R X i n := by
  have e : (fun n d => x0 (ix3 0 n d)) = X := funext fun l => funext fun d => hX l d
  have e' : (fun l d => x1 (ix2 l d)) = R := funext fun l => funext fun d => hR l d
  rw [cost_at, e, e']

/-- The soft distance of a slice. -/
theorem mDist_at (hX : ∀ n d, x0 (ix3 0 n d) = X n d) (hR : ∀ n d, x1 (ix2 n d) = R n d) (hR' : ∀ n d, y1 (ix2 n d) = R n d)
    (hW : ∀ l d, x2 (ix2 l d) = W l d) (l : Fin 16) :
    mDist x0 x1 (proW x2) (proSoft y1 x2) l (ix2 0 0)
      = (∑ i, ∑ k, soft (proj R W l) i k * ∑ n, cost R X i n * soft (proj X W l) n k) * Ideal.ofBits .f32 0x39800000#32 := by
  refine (distOp_at (k0_pay107 (k0_pay106 x1 x0)) (mSoft x0 (proW x2) l) (proSoft y1 x2 l)).trans (congrArg (fun z : EReal => z * Ideal.ofBits .f32 0x39800000#32) ?_)
  refine Finset.sum_congr rfl fun i _ => Finset.sum_congr rfl fun k _ => congrArg₂ (· * ·) ?_ ?_
  · exact proSoft_at y1 x2 R W hR' hW l i k
  · refine Finset.sum_congr rfl fun n _ => congrArg₂ (· * ·) ?_ ?_
    · exact (k107_at _ i n).trans (mCost_at x0 x1 X R hX hR i n)
    · exact mSoft_at x0 x2 X W hX hW l n k

/-- The weights of the slices. -/
theorem mW_at (hX : ∀ n d, x0 (ix3 0 n d) = X n d) (hR : ∀ n d, x1 (ix2 n d) = R n d) (hR' : ∀ n d, y1 (ix2 n d) = R n d)
    (hW : ∀ l d, x2 (ix2 l d) = W l d) (l : Fin 16) :
    mW x0 x1 (proW x2) (proRankr y1 x2) (ix2 0 l)
      = wt (fun l => ed (cost R X) (proj R W l) (proj X W l)) l := by
  have e : (fun i n => k0_pay106 x1 x0 (ix2 i n)) = cost R X := funext fun i => funext fun n => mCost_at x0 x1 X R hX hR i n
  refine (wt_at _ l).trans (congrArg (fun z => wt z l) (funext fun l => ?_))
  refine (edOp_at _ _ _ (proj R W l) (proj X W l) (fun i => proRankr_at y1 x2 R W hR' hW l i) (fun i => mRank_at x0 x2 X W hX hW l i)).trans ?_
  rw [e]

/-- The expected plan. -/
theorem mPlan_at (hX : ∀ n d, x0 (ix3 0 n d) = X n d) (hR : ∀ n d, x1 (ix2 n d) = R n d) (hR' : ∀ n d, y1 (ix2 n d) = R n d)
    (hW : ∀ l d, x2 (ix2 l d) = W l d) (i n : Fin 512) :
    mPlan x0 x1 (proW x2) (proRankr y1 x2) (ix2 i n)
      = mix (proj R W) (proj X W) (wt fun l => ed (cost R X) (proj R W l) (proj X W l)) i n := by
  refine (planOp_at _ i n).trans (Finset.sum_congr rfl fun l _ => ?_)
  refine (termOp_at _ _ _ (proj R W l) (proj X W l) (fun i => proRankr_at y1 x2 R W hR' hW l i) (fun i => mRank_at x0 x2 X W hX hW l i) i n).trans ?_
  rw [cell_at, mW_at x0 x1 y1 x2 X R W hX hR hR' hW]

/-- The embeddings. -/
theorem mEmb_at (hX : ∀ n d, x0 (ix3 0 n d) = X n d) (hR : ∀ n d, x1 (ix2 n d) = R n d) (hR' : ∀ n d, y1 (ix2 n d) = R n d)
    (hW : ∀ l d, x2 (ix2 l d) = W l d) (i : Fin 512) (d : Fin 128) :
    mEmb x0 x1 (proW x2) (proRankr y1 x2) (ix3 0 i d)
      = emb (mix (proj R W) (proj X W) (wt fun l => ed (cost R X) (proj R W l) (proj X W l))) R X i d := by
  have e : (fun i n => mPlan x0 x1 (proW x2) (proRankr y1 x2) (ix2 i n))
      = mix (proj R W) (proj X W) (wt fun l => ed (cost R X) (proj R W l) (proj X W l)) :=
    funext fun i => funext fun n => mPlan_at x0 x1 y1 x2 X R W hX hR hR' hW i n
  have e' : (fun l d => x1 (ix2 l d)) = R := funext fun l => funext fun d => hR l d
  have e'' : (fun n d => k0_pay105 x0 (ix2 n d)) = X := funext fun n => funext fun d => (k105_at x0 n d).trans (hX n d)
  refine (emb_at _ _ _ i d).trans ?_
  rw [e, e', e'']

end point

variable (m : (ℓ : Loc nD τ sig) → Buf (Elt Ideal) ℓ)

/-- A batch element's points, the reference points and the weight rows of the arguments. -/
def aX (c : Dev nD) (b : Fin 8) : Fin 512 → Fin 128 → EReal := fun n d => m ((c.tc : Thread nD τ).loc main_arg0) (ix3 b n d)
@[inherit_doc aX]
def aR (c : Dev nD) : Fin 512 → Fin 128 → EReal := fun n d => m ((c.tc : Thread nD τ).loc main_arg1) (ix2 n d)
@[inherit_doc aX]
def aW (c : Dev nD) : Fin 16 → Fin 128 → EReal := fun l d => m ((c.tc : Thread nD τ).loc main_arg2) (ix2 l d)

/-- The kernel's embeddings. -/
theorem embArr_at (c : Dev nD) (b : Fin 8) (i : Fin 512) (d : Fin 128) :
    embArr m c (ix3 b i d) = emb (mix (proj (aR m c) (aW m c)) (proj (aX m c b) (aW m c))
      (wt fun l => ed (cost (aR m c) (aX m c b)) (proj (aR m c) (aW m c) l) (proj (aX m c b) (aW m c) l))) (aR m c) (aX m c b) i d :=
  mEmb_at (iblk m c 0 (ptOf b)) (iblk m c 1 (ptOf b)) (iblk m c 1 tz) (iblk m c 2 tz) (aX m c b) (aR m c) (aW m c)
    (fun n d => iblk_X m c b n d) (fun n d => iblk_R m c _ n d) (fun n d => iblk_R m c _ n d) (fun n d => iblk_W m c _ n d) i d

/-- The kernel's soft distances. -/
theorem dlSum_at (c : Dev nD) (l : Fin 16) :
    dlSum m c (ix1 l) = ∑ b, (∑ i, ∑ k, soft (proj (aR m c) (aW m c) l) i k
      * ∑ n, cost (aR m c) (aX m c b) i n * soft (proj (aX m c b) (aW m c) l) n k) * Ideal.ofBits .f32 0x39800000#32 := by
  unfold dlSum
  pointwise
  exact Finset.sum_congr rfl fun b _ =>
    mDist_at (iblk m c 0 (ptOf b)) (iblk m c 1 (ptOf b)) (iblk m c 1 tz) (iblk m c 2 tz) (aX m c b) (aR m c) (aW m c)
      (fun n d => iblk_X m c b n d) (fun n d => iblk_R m c _ n d) (fun n d => iblk_R m c _ n d) (fun n d => iblk_W m c _ n d) l

end Cert.KernelIdeal.Hand

end
-- ==== Proof.Run.StagesR.lean ====
module
public import Idealize.ShloMosaic.Lib.Pointwise
public import proofs.«01_k».proof.Proof.Gen.ReferenceIdeal.Run

/-! The reference's program in stages, as vectors at the ideal instance. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.SL.Sem

/-- The weight rows over their lengths. -/
def dirOp (w : FVec Ideal S16x128 .f32) : FVec Ideal S16x128 .f32 :=
  Host.divf w (broadcastInDim S16x128 ![0, 1] bcast_S16x1_S16x128_0_1 (Host.sqrt (broadcastInDim S16x1 ![0] bcast_S16_S16x1_0 (Host.reduceAdd (mulf w w) (constant S_ .f32 0x00000000#32) reducesTo_S16x128_S16_d1 h_S_))))

/-- The batch's projections. -/
def projXOp (x : FVec Ideal S8x512x128 .f32) (w : FVec Ideal S16x128 .f32) : FVec Ideal S8x512x16 .f32 :=
  Host.dotGeneral dot_S8x512x128_S16x128_S8x512x16_2_1_01_0_n_n none x (dirOp w)

/-- The reference's projections, for every batch element. -/
def projROp (r : FVec Ideal S512x128 .f32) (w : FVec Ideal S16x128 .f32) : FVec Ideal S8x512x16 .f32 :=
  broadcastInDim S8x512x16 ![0, 1, 2] bcast_S1x512x16_S8x512x16_0_1_2 (broadcastInDim S1x512x16 ![1, 2] bcast_S512x16_S1x512x16_1_2 (Host.dotGeneral dot_S512x128_S16x128_S512x16_1_1_0_0_n_n none r (dirOp w)))

/-- The positions of the entries in increasing order. -/
def argOp (v : FVec Ideal S8x512x16 .f32) : IVec S8x512x16 32 :=
  (Host.sort2 S8x512x16 1 (comparator_f32_i32_d1 (F := Ideal)) v (iotaInDim S8x512x16 32 1)).2

/-- Every index's batch element, and its slice. -/
def batchOp : IVec S8x512x16 32 :=
  broadcastInDim S8x512x16 ![0, 1, 2] bcast_S8x1x1_S8x512x16_0_1_2 (broadcastInDim S8x1x1 ![0] bcast_S8_S8x1x1_0 (iotaInDim S8 32 0))
@[inherit_doc batchOp]
def sliceOp : IVec S8x512x16 32 :=
  broadcastInDim S8x512x16 ![0, 1, 2] bcast_S1x1x16_S8x512x16_0_1_2 (broadcastInDim S1x1x16 ![2] bcast_S16_S1x1x16_2 (iotaInDim S16 32 0))

/-- A word taken up by `k` where it is negative, as a column of places. -/
def wrapOp (k : BitVec 32) (v : IVec S8x512x16 32) : IVec S8x512x16x1 32 :=
  broadcastInDim S8x512x16x1 ![0, 1, 2] bcast_S8x512x16_S8x512x16x1_0_1_2 (select (cmpi .slt v (broadcastInDim S8x512x16 ![] bcast_S_S8x512x16 (constantI S_ 32 0#32))) (addi v (broadcastInDim S8x512x16 ![] bcast_S_S8x512x16 (constantI S_ 32 k))) v)

/-- The places of the plan's entries. -/
def placeOp (ix ir : IVec S8x512x16 32) : IVec S8x512x16x4 32 :=
  concatenate S8x512x16x4 3 [⟨S8x512x16x1, wrapOp 8#32 batchOp⟩, ⟨S8x512x16x1, wrapOp 512#32 ir⟩, ⟨S8x512x16x1, wrapOp 512#32 ix⟩, ⟨S8x512x16x1, wrapOp 16#32 sliceOp⟩] concatenates_S8x512x16x1_S8x512x16x1_S8x512x16x1_S8x512x16x1_S8x512x16x4_d3

/-- The plan: one over the number of points at every pair of positions of equal rank. -/
def planOp (ix ir : IVec S8x512x16 32) : FVec Ideal S8x512x512x16 .f32 :=
  Host.scatterAdd scatter_S8x512x512x16_S8x512x16x4_S8x512x16_n_0123_0123_3 (broadcastInDim S8x512x512x16 ![] bcast_S_S8x512x512x16 (constant S_ .f32 0x00000000#32)) (placeOp ix ir) (broadcastInDim S8x512x16 ![] bcast_S_S8x512x16 (constant S_ .f32 0x3B000000#32))

/-- The distances. -/
def costOp (x : FVec Ideal S8x512x128 .f32) (r : FVec Ideal S512x128 .f32) : FVec Ideal S8x512x512 .f32 :=
  Host.sqrt (maximumf (subf (addf (broadcastInDim S8x512x512 ![0, 1, 2] bcast_S1x512x1_S8x512x512_0_1_2 (broadcastInDim S1x512x1 ![1] bcast_S512_S1x512x1_1 (Host.reduceAdd (mulf r r) (constant S_ .f32 0x00000000#32) reducesTo_S512x128_S512_d1 h_S_))) (broadcastInDim S8x512x512 ![0, 1, 2] bcast_S8x1x512_S8x512x512_0_1_2 (broadcastInDim S8x1x512 ![0, 2] bcast_S8x512_S8x1x512_0_2 (Host.reduceAdd (mulf x x) (constant S_ .f32 0x00000000#32) reducesTo_S8x512x128_S8x512_d2 h_S_)))) (mulf (broadcastInDim S8x512x512 ![] bcast_S_S8x512x512 (constant S_ .f32 0x40000000#32)) (transpose S8x512x512 [0, 2, 1] (Host.dotGeneral dot_S8x512x128_S512x128_S8x512x512_2_1_01_0_n_n none x r) transposes_S8x512x512_S8x512x512_0_2_1))) (broadcastInDim S8x512x512 ![] bcast_S_S8x512x512 (constant S_ .f32 0x2B8CBCCC#32)))

/-- The plan costs, negated. -/
def edOp (c : FVec Ideal S8x512x512 .f32) (p : FVec Ideal S8x512x512x16 .f32) : FVec Ideal S8x16 .f32 :=
  Host.divf (Host.negf (Host.reduceAdd (mulf (broadcastInDim S8x512x512x16 ![0, 1, 2, 3] bcast_S8x512x512x1_S8x512x512x16_0_1_2_3 (broadcastInDim S8x512x512x1 ![0, 1, 2] bcast_S8x512x512_S8x512x512x1_0_1_2 c)) p) (constant S_ .f32 0x00000000#32) reducesTo_S8x512x512x16_S8x16_d1_2 h_S_)) (broadcastInDim S8x16 ![] bcast_S_S8x16 (constant S_ .f32 0x3F800000#32))

/-- The slices' weights before their division by their sum. -/
def wOp (z : FVec Ideal S8x16 .f32) : FVec Ideal S8x16 .f32 :=
  Host.exp (subf z (broadcastInDim S8x16 ![0, 1] bcast_S8x1_S8x16_0_1 (broadcastInDim S8x1 ![0] bcast_S8_S8x1_0 (maximumf (broadcastInDim S8 ![] bcast_S_S8 (constant S_ .f32 0xFF800000#32)) (Host.reduce FloatOps.maximumf z (constant S_ .f32 0xFF800000#32) reducesTo_S8x16_S8_d1 h_S_)))))

/-- The expected plan. -/
def mixOp (p : FVec Ideal S8x512x512x16 .f32) (e : FVec Ideal S8x16 .f32) : FVec Ideal S8x512x512 .f32 :=
  Host.reduceAdd (mulf p (broadcastInDim S8x512x512x16 ![0, 1, 2, 3] bcast_S8x1x1x16_S8x512x512x16_0_1_2_3 (broadcastInDim S8x1x1x16 ![0, 3] bcast_S8x16_S8x1x1x16_0_3 (Host.divf e (broadcastInDim S8x16 ![0, 1] bcast_S8x1_S8x16_0_1 (broadcastInDim S8x1 ![0] bcast_S8_S8x1_0 (Host.reduceAdd e (constant S_ .f32 0x00000000#32) reducesTo_S8x16_S8_d1 h_S_))))))) (constant S_ .f32 0x00000000#32) reducesTo_S8x512x512x16_S8x512x512_d3 h_S_

/-- The embeddings. -/
def embOp (E : FVec Ideal S8x512x512 .f32) (x : FVec Ideal S8x512x128 .f32) (r : FVec Ideal S512x128 .f32) : FVec Ideal S8x512x128 .f32 :=
  subf (Host.divf (Host.dotGeneral dot_S8x512x512_S8x512x128_S8x512x128_2_1_1_2_0_0 none E x) (broadcastInDim S8x512x128 ![0, 1, 2] bcast_S8x512x1_S8x512x128_0_1_2 (addf (broadcastInDim S8x512x1 ![0, 1] bcast_S8x512_S8x512x1_0_1 (Host.reduceAdd E (constant S_ .f32 0x00000000#32) reducesTo_S8x512x512_S8x512_d2 h_S_)) (broadcastInDim S8x512x1 ![] bcast_S_S8x512x1 (constant S_ .f32 0x322BCC77#32))))) (broadcastInDim S8x512x128 ![0, 1, 2] bcast_S1x512x128_S8x512x128_0_1_2 (broadcastInDim S1x512x128 ![1, 2] bcast_S512x128_S1x512x128_1_2 r))

/-- The projections slice by slice. -/
def rowsOp (v : FVec Ideal S8x512x16 .f32) : FVec Ideal S8x16x512 .f32 :=
  transpose S8x16x512 [0, 2, 1] v transposes_S8x512x16_S8x16x512_0_2_1

/-- The differences from the values in decreasing order. -/
def diffOp (v : FVec Ideal S8x16x512 .f32) : FVec Ideal S8x16x512x512 .f32 :=
  subf (broadcastInDim S8x16x512x512 ![0, 1, 2, 3] bcast_S8x16x1x512_S8x16x512x512_0_1_2_3 (broadcastInDim S8x16x1x512 ![0, 1, 3] bcast_S8x16x512_S8x16x1x512_0_1_3 v)) (broadcastInDim S8x16x512x512 ![0, 1, 2, 3] bcast_S8x16x512x1_S8x16x512x512_0_1_2_3 (broadcastInDim S8x16x512x1 ![0, 1, 2] bcast_S8x16x512_S8x16x512x1_0_1_2 (Host.negf (Host.sort S8x16x512 2 comparator_f32_d2 (Host.negf v)))))

/-- The negated squares. -/
def logitOp (v : FVec Ideal S8x16x512x512 .f32) : FVec Ideal S8x16x512x512 .f32 :=
  Host.divf (Host.negf (mulf v v)) (broadcastInDim S8x16x512x512 ![] bcast_S_S8x16x512x512 (constant S_ .f32 0x3F800000#32))

/-- The row maxima. -/
def rowMaxOp (v : FVec Ideal S8x16x512x512 .f32) : FVec Ideal S8x16x512 .f32 :=
  Host.reduce FloatOps.maximumf v (constant S_ .f32 0xFF800000#32) reducesTo_S8x16x512x512_S8x16x512_d3 h_S_

/-- The exponentials of the differences from given row values. -/
def softFromOp (v : FVec Ideal S8x16x512x512 .f32) (q : FVec Ideal S8x16x512 .f32) : FVec Ideal S8x16x512x512 .f32 :=
  Host.exp (subf v (broadcastInDim S8x16x512x512 ![0, 1, 2, 3] bcast_S8x16x512x1_S8x16x512x512_0_1_2_3 (broadcastInDim S8x16x512x1 ![0, 1, 2] bcast_S8x16x512_S8x16x512x1_0_1_2 (maximumf (broadcastInDim S8x16x512 ![] bcast_S_S8x16x512 (constant S_ .f32 0xFF800000#32)) q))))

/-- The soft sort's weights before their division by their sum. -/
def softEOp (v : FVec Ideal S8x16x512x512 .f32) : FVec Ideal S8x16x512x512 .f32 := softFromOp v (rowMaxOp v)

/-- The soft sort. -/
def softDivOp (e : FVec Ideal S8x16x512x512 .f32) : FVec Ideal S8x16x512x512 .f32 :=
  Host.divf e (broadcastInDim S8x16x512x512 ![0, 1, 2, 3] bcast_S8x16x512x1_S8x16x512x512_0_1_2_3 (broadcastInDim S8x16x512x1 ![0, 1, 2] bcast_S8x16x512_S8x16x512x1_0_1_2 (Host.reduceAdd e (constant S_ .f32 0x00000000#32) reducesTo_S8x16x512x512_S8x16x512_d3 h_S_)))

/-- The distances times the plan of the soft sorts. -/
def pairOp (c : FVec Ideal S8x512x512 .f32) (sr sx : FVec Ideal S8x16x512x512 .f32) : FVec Ideal S8x16x512x512 .f32 :=
  mulf (broadcastInDim S8x16x512x512 ![0, 1, 2, 3] bcast_S8x1x512x512_S8x16x512x512_0_1_2_3 (broadcastInDim S8x1x512x512 ![0, 2, 3] bcast_S8x512x512_S8x1x512x512_0_2_3 c)) (Host.divf (Host.dotGeneral dot_S8x16x512x512_S8x16x512x512_S8x16x512x512_3_2_2_3_01_01 none sr (transpose S8x16x512x512 [0, 1, 3, 2] sx transposes_S8x16x512x512_S8x16x512x512_0_1_3_2)) (broadcastInDim S8x16x512x512 ![] bcast_S_S8x16x512x512 (constant S_ .f32 0x44000000#32)))

/-- The mean over the batch of the sums of all pairs. -/
def meanOp (y : FVec Ideal S8x16x512x512 .f32) : FVec Ideal S16 .f32 :=
  Host.divf (Host.reduceAdd (Host.reduceAdd y (constant S_ .f32 0x00000000#32) reducesTo_S8x16x512x512_S8x16_d3_2 h_S_) (constant S_ .f32 0x00000000#32) reducesTo_S8x16_S16_d0 h_S_) (broadcastInDim S16 ![] bcast_S_S16 (constant S_ .f32 0x41000000#32))

/-- The mean soft distances. -/
def distOp (c : FVec Ideal S8x512x512 .f32) (er ex : FVec Ideal S8x16x512x512 .f32) : FVec Ideal S16 .f32 :=
  meanOp (pairOp c (softDivOp er) (softDivOp ex))

variable (x : FVec Ideal S8x512x128 .f32) (r : FVec Ideal S512x128 .f32) (w : FVec Ideal S16x128 .f32)

/-- The plan of a batch. -/
def planV : FVec Ideal S8x512x512x16 .f32 := planOp (argOp (projXOp x w)) (argOp (projROp r w))
/-- The expected plan of a batch. -/
def mixV : FVec Ideal S8x512x512 .f32 := mixOp (planV x r w) (wOp (edOp (costOp x r) (planV x r w)))
/-- The embeddings of a batch. -/
def embV : FVec Ideal S8x512x128 .f32 := embOp (mixV x r w) x r
/-- The soft sort's weights of projections. -/
def softV (v : FVec Ideal S8x512x16 .f32) : FVec Ideal S8x16x512x512 .f32 := softEOp (logitOp (diffOp (rowsOp v)))
/-- The mean soft distances of a batch. -/
def distV : FVec Ideal S16 .f32 := distOp (costOp x r) (softV (projROp r w)) (softV (projXOp x w))

/-- The reference's run ends with the embeddings and the mean soft distances of its arguments, which it leaves as they were. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = embV (m ((c.tc : Thread nD τ).loc main_arg0)) (m ((c.tc : Thread nD τ).loc main_arg1)) (m ((c.tc : Thread nD τ).loc main_arg2))
      ∧ r.2.mem ((c.tc : Thread nD τ).loc main_v153) = distV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Hand

end
-- ==== Proof.Run.ReadR.lean ====
module
public import proofs.«01_k».proof.Proof.Run.Spec
public import proofs.«01_k».proof.Proof.Run.StagesR
public import Idealize.ShloMosaic.Lib.IdealHost
public import Idealize.ShloMosaic.Lib.Routing.OpsPair

/-! The reference's stages at the ideal instance, entry by entry. -/

@[expose] public section

set_option maxRecDepth 16384

noncomputable section

namespace Cert.ReferenceIdeal.Hand

open Cert.ReferenceIdeal Cert.ReferenceIdeal.Gen Cert.Spec Cert.Ranks
open Idealize.ShloMosaic Idealize.ShloMosaic.TcCoe
open scoped BigOperators

/-- The word of minus infinity. -/
theorem bits_neg_inf : Ideal.ofBits .f32 0xFF800000#32 = ⊥ := by simp [Ideal.ofBits, Ideal.ieee]

/-- A division by one. -/
theorem div_one_bits (x : EReal) : Ideal.div x 1 = x := by
  rw [Ideal.div, if_neg one_ne_zero]
  simp

/-- The directions. -/
theorem dirOp_at (w : FVec Ideal S16x128 .f32) (l : Fin 16) (d : Fin 128) :
    dirOp w (ix2 l d) = dirW (fun l d => w (ix2 l d)) l d := by
  pointwise [dirOp]
  rfl

/-- The points' projections. -/
theorem projXOp_at (x : FVec Ideal S8x512x128 .f32) (w : FVec Ideal S16x128 .f32) (b : Fin 8) (n : Fin 512) (l : Fin 16) :
    projXOp x w (ix3 b n l) = proj (fun n d => x (ix3 b n d)) (fun l d => w (ix2 l d)) l n := by
  pointwise [projXOp]
  exact Finset.sum_congr rfl fun d _ => congrArg (x (ix3 b n d) * ·) (dirOp_at w l d)

/-- The reference points' projections. -/
theorem projROp_at (r : FVec Ideal S512x128 .f32) (w : FVec Ideal S16x128 .f32) (b : Fin 8) (n : Fin 512) (l : Fin 16) :
    projROp r w (ix3 b n l) = proj (fun n d => r (ix2 n d)) (fun l d => w (ix2 l d)) l n := by
  pointwise [projROp]
  exact Finset.sum_congr rfl fun d _ => congrArg (r (ix2 n d) * ·) (dirOp_at w l d)

/-- The distances. -/
theorem costOp_at (x : FVec Ideal S8x512x128 .f32) (r : FVec Ideal S512x128 .f32) (b : Fin 8) (i n : Fin 512) :
    costOp x r (ix3 b i n) = cost (fun n d => r (ix2 n d)) (fun n d => x (ix3 b n d)) i n := by
  have e : (∑ d, r (ix2 i d) * x (ix3 b n d)) = ∑ d, x (ix3 b n d) * r (ix2 i d) :=
    Finset.sum_congr rfl fun d _ => mul_comm _ _
  unfold cost
  rw [e]
  pointwise [costOp]

/-- A sum over the two middle axes. -/
theorem sum12 (v : FVec Ideal S8x512x512x16 .f32) (b : Fin 8) (l : Fin 16) :
    Ideal.hostReduceAdd reducesTo_S8x512x512x16_S8x16_d1_2 v 0 (ix2 b l) = ∑ i, ∑ n, v (ix4 b i n l) := by
  show (0 : EReal) + _ = _
  rw [zero_add]
  refine (Finset.sum_filter_eq_sum_of_fiber _ (fun k : Fin 512 × Fin 512 => (ix4 b k.1 k.2 l : S8x512x512x16.Idx))
    (fun _ _ e => Prod.ext (congrFun e 1) (congrFun e 2)) (fun i => ?_) v).trans (Fintype.sum_prod_type _)
  have h0 := Shape.ReducesTo.drop_apply_val_of_eq reducesTo_S8x512x512x16_S8x16_d1_2 i 0 0
  have h1 := Shape.ReducesTo.drop_apply_val_of_eq reducesTo_S8x512x512x16_S8x16_d1_2 i 1 3
  constructor
  · intro e
    rw [e] at h0 h1
    refine ⟨(i 1, i 2), ?_⟩
    funext a
    apply Fin.ext
    match a with
    | ⟨0, _⟩ => exact h0
    | ⟨1, _⟩ => rfl
    | ⟨2, _⟩ => rfl
    | ⟨3, _⟩ => exact h1
  · rintro ⟨k, rfl⟩
    funext a
    apply Fin.ext
    match a with
    | ⟨0, _⟩ => exact h0
    | ⟨1, _⟩ => exact h1

/-- A sum over the two last axes. -/
theorem sum32 (v : FVec Ideal S8x16x512x512 .f32) (b : Fin 8) (l : Fin 16) :
    Ideal.hostReduceAdd reducesTo_S8x16x512x512_S8x16_d3_2 v 0 (ix2 b l) = ∑ i, ∑ n, v (ix4 b l i n) := by
  show (0 : EReal) + _ = _
  rw [zero_add]
  refine (Finset.sum_filter_eq_sum_of_fiber _ (fun k : Fin 512 × Fin 512 => (ix4 b l k.1 k.2 : S8x16x512x512.Idx))
    (fun _ _ e => Prod.ext (congrFun e 2) (congrFun e 3)) (fun i => ?_) v).trans (Fintype.sum_prod_type _)
  have h0 := Shape.ReducesTo.drop_apply_val_of_eq reducesTo_S8x16x512x512_S8x16_d3_2 i 0 0
  have h1 := Shape.ReducesTo.drop_apply_val_of_eq reducesTo_S8x16x512x512_S8x16_d3_2 i 1 1
  constructor
  · intro e
    rw [e] at h0 h1
    refine ⟨(i 2, i 3), ?_⟩
    funext a
    apply Fin.ext
    match a with
    | ⟨0, _⟩ => exact h0
    | ⟨1, _⟩ => exact h1
    | ⟨2, _⟩ => rfl
    | ⟨3, _⟩ => rfl
  · rintro ⟨k, rfl⟩
    funext a
    apply Fin.ext
    match a with
    | ⟨0, _⟩ => exact h0
    | ⟨1, _⟩ => exact h1

/-- The plan costs, negated. -/
theorem edOp_at (c : FVec Ideal S8x512x512 .f32) (p : FVec Ideal S8x512x512x16 .f32) (b : Fin 8) (l : Fin 16) :
    edOp c p (ix2 b l) = -(∑ i, ∑ n, c (ix3 b i n) * p (ix4 b i n l)) := by
  pointwise [edOp]
  refine (div_one_bits _).trans (congrArg Neg.neg ?_)
  refine (sum12 _ b l).trans (Finset.sum_congr rfl fun i _ => Finset.sum_congr rfl fun n _ => ?_)
  pointwise

/-- The slices' weights before their division. -/
theorem wOp_at (z : FVec Ideal S8x16 .f32) (e : Fin 16 → EReal) (b : Fin 8) (l : Fin 16) (h : ∀ k, z (ix2 b k) = -e k) :
    wOp z (ix2 b l) = wE e l := by
  pointwise [wOp]
  have hf : (fun k => z (ix2 b k)) = fun k => -e k := funext h
  have hm : ∀ y : EReal, max (Ideal.ofBits .f32 0xFF800000#32) y = y := fun y => by rw [bits_neg_inf]; exact max_eq_right bot_le
  have hs : Finset.univ.fold max (Ideal.ofBits .f32 0xFF800000#32) (fun k => z (ix2 b k)) = Finset.univ.sup fun k => -e k := by
    rw [hf, bits_neg_inf]; rfl
  exact congrArg₂ (fun u v : EReal => Ideal.exp (u - v)) (h l) ((hm _).trans hs)

/-- The expected plan. -/
theorem mixOp_at (p : FVec Ideal S8x512x512x16 .f32) (z : FVec Ideal S8x16 .f32) (b : Fin 8) (i n : Fin 512) :
    mixOp p z (ix3 b i n) = ∑ l, p (ix4 b i n l) * Ideal.div (z (ix2 b l)) (∑ k, z (ix2 b k)) := by
  pointwise [mixOp]

/-- The embeddings. -/
theorem embOp_at (E : FVec Ideal S8x512x512 .f32) (x : FVec Ideal S8x512x128 .f32) (r : FVec Ideal S512x128 .f32) (b : Fin 8) (i : Fin 512) (d : Fin 128) :
    embOp E x r (ix3 b i d) = Ideal.div (∑ n, E (ix3 b i n) * x (ix3 b n d))
      ((∑ n, E (ix3 b i n)) + Ideal.ofBits .f32 0x322BCC77#32) - r (ix2 i d) := by
  pointwise [embOp]

/-- The projections as rows. -/
theorem rowsOp_at (v : FVec Ideal S8x512x16 .f32) (b : Fin 8) (l : Fin 16) (n : Fin 512) :
    rowsOp v (ix3 b l n) = v (ix3 b n l) := by
  pointwise [rowsOp]

/-- The batch element of an index. -/
theorem batchOp_at (b : Fin 8) (n : Fin 512) (l : Fin 16) :
    batchOp (ix3 b n l) = BitVec.ofNat 32 b.val := by
  pointwise [batchOp]

/-- The slice of an index. -/
theorem sliceOp_at (b : Fin 8) (n : Fin 512) (l : Fin 16) :
    sliceOp (ix3 b n l) = BitVec.ofNat 32 l.val := by
  pointwise [sliceOp]

/-- The comparator of the argument sort compares the values. -/
theorem cmp2 (a b : EReal × BitVec 32) :
    (comparator_f32_i32_d1 (F := Ideal) a b == 1#1) = decide (a.1 < b.1) := by
  have h : ∀ c : EReal, (if c ≠ c then Ideal.ofBits FTy.f32 2143289344#32 else if c = 0 then 0 else c) = c := fun c => by
    rw [if_neg (not_not.2 rfl)]
    split
    · next h => exact h.symm
    · rfl
  unfold comparator_f32_i32_d1
  pointwise
  rw [h, h]
  show (BitVec.ofBool (decide (a.1 < b.1)) == 1#1) = _
  by_cases hl : a.1 < b.1 <;> simp [hl]

/-- The comparator of the sort compares the values. -/
theorem cmp1 (a b : EReal) :
    (comparator_f32_d2 (F := Ideal) a b == 1#1) = decide (a < b) := by
  have h : ∀ c : EReal, (if c ≠ c then Ideal.ofBits FTy.f32 2143289344#32 else if c = 0 then 0 else c) = c := fun c => by
    rw [if_neg (not_not.2 rfl)]
    split
    · next h => exact h.symm
    · rfl
  unfold comparator_f32_d2
  pointwise
  rw [h, h]
  show (BitVec.ofBool (decide (a < b)) == 1#1) = _
  by_cases hl : a < b <;> simp [hl]

/-- An index moved along its second axis. -/
theorem along1 (b : Fin 8) (p : Fin 512) (l : Fin 16) (k : Fin 512) :
    (ix3 b p l : S8x512x16.Idx).along 1 k = ix3 b k l := by
  funext a
  match a with
  | ⟨0, _⟩ => rfl
  | ⟨1, _⟩ => rfl
  | ⟨2, _⟩ => rfl

/-- An index moved along its last axis. -/
theorem along2 (b : Fin 8) (l : Fin 16) (p : Fin 512) (k : Fin 512) :
    (ix3 b l p : S8x16x512.Idx).along 2 k = ix3 b l k := by
  funext a
  match a with
  | ⟨0, _⟩ => rfl
  | ⟨1, _⟩ => rfl
  | ⟨2, _⟩ => rfl

/-- The second result of the argument sort. -/
theorem sort2_at {α β : Type} (cmp : α × β → α × β → BitVec 1) (x : S8x512x16.Idx → α) (y : S8x512x16.Idx → β) (j : S8x512x16.Idx) :
    (Host.sort2 S8x512x16 1 cmp x y).2 j = y (j.along 1 (sortedFrom (n := 512) (fun k k' =>
      cmp (x (j.along 1 k), y (j.along 1 k)) (x (j.along 1 k'), y (j.along 1 k')) == 1#1) (j 1))) := by
  rw [Host.sort2_eq_sortBy]
  rfl

/-- The positions in increasing order. -/
theorem argOp_at (v : FVec Ideal S8x512x16 .f32) (b : Fin 8) (p : Fin 512) (l : Fin 16) :
    argOp v (ix3 b p l) = BitVec.ofNat 32 (at_ (fun n => v (ix3 b n l)) p).val := by
  have hk : ∀ k : Fin 512, iotaInDim S8x512x16 32 1 ((ix3 b p l : S8x512x16.Idx).along 1 k) = BitVec.ofNat 32 k.val := fun k =>
    congrArg (iotaInDim S8x512x16 32 1) (along1 b p l k)
  have h : argOp v (ix3 b p l) = iotaInDim S8x512x16 32 1 ((ix3 b p l : S8x512x16.Idx).along 1 (sortedFrom (n := 512) (fun k k' =>
      comparator_f32_i32_d1 (F := Ideal) (v ((ix3 b p l : S8x512x16.Idx).along 1 k), iotaInDim S8x512x16 32 1 ((ix3 b p l : S8x512x16.Idx).along 1 k))
        (v ((ix3 b p l : S8x512x16.Idx).along 1 k'), iotaInDim S8x512x16 32 1 ((ix3 b p l : S8x512x16.Idx).along 1 k')) == 1#1) p)) :=
    sort2_at _ v (iotaInDim S8x512x16 32 1) (ix3 b p l)
  rw [h, hk, sortedFrom_lt (fun n => v (ix3 b n l))]
  intro i j
  rw [cmp2, decide_eq_true_iff]
  exact Iff.of_eq (congrArg₂ (fun a b => v a < v b) (along1 b p l i) (along1 b p l j))

/-- The sorted values, from the greatest down. -/
theorem sort_at (v : FVec Ideal S8x16x512 .f32) (b : Fin 8) (l : Fin 16) (i : Fin 512) :
    -(Host.sort S8x16x512 2 (comparator_f32_d2 (F := Ideal)) (Host.negf v) (ix3 b l i) : EReal) = Spec.desc (fun n => v (ix3 b l n)) i := by
  have e : ∀ k, Host.negf v ((ix3 b l i : S8x16x512.Idx).along 2 k) = (-v (ix3 b l k) : EReal) := fun k =>
    congrArg (fun z => (-v z : EReal)) (along2 b l i k)
  have h := neg_sorted (fun n => v (ix3 b l n)) i
    (fun k k' => comparator_f32_d2 (F := Ideal) (Host.negf v ((ix3 b l i : S8x16x512.Idx).along 2 k)) (Host.negf v ((ix3 b l i : S8x16x512.Idx).along 2 k')) == 1#1)
    (fun k k' => by
      rw [cmp1, decide_eq_true_iff]
      exact Iff.of_eq (congrArg₂ (fun a b : EReal => a < b) (e k) (e k')))
  refine Eq.trans ?_ h
  refine (congrArg Neg.neg (e _)).trans (neg_neg _)

/-- A small word is kept. -/
theorem wrapOp_at (k : BitVec 32) (v : IVec S8x512x16 32) (b : Fin 8) (n : Fin 512) (l : Fin 16) (m : Nat) (hm : m < 512)
    (h : v (ix3 b n l) = BitVec.ofNat 32 m) : (wrapOp k v (ix4 b n l 0)).toInt = m := by
  have hi : (BitVec.ofNat 32 m).toInt = m := by
    rw [BitVec.toInt_eq_toNat_of_lt] <;> rw [BitVec.toNat_ofNat, Nat.mod_eq_of_lt] <;> omega
  have e : wrapOp k v (ix4 b n l 0)
      = Scalar.select (IntOp.cmpi .slt (v (ix3 b n l)) 0#32) (IntOp.addi (v (ix3 b n l)) k) (v (ix3 b n l)) := by
    pointwise [wrapOp]
  have hs : IntOp.cmpi .slt (BitVec.ofNat 32 m) 0#32 = 0#1 := by
    have : ¬ (m : Int) < 0 := by omega
    simp only [IntOp.cmpi, BitVec.slt, hi]
    rw [BitVec.toInt_zero, decide_eq_false this]
    rfl
  rw [e, h, hs]
  exact hi

/-- The four places. -/
theorem place0 (ix ir : IVec S8x512x16 32) (b : Fin 8) (n : Fin 512) (l : Fin 16) :
    placeOp ix ir (ix4 b n l 0) = wrapOp 8#32 batchOp (ix4 b n l 0) := by
  pointwise [placeOp]

/-- The four places. -/
theorem place1 (ix ir : IVec S8x512x16 32) (b : Fin 8) (n : Fin 512) (l : Fin 16) :
    placeOp ix ir (ix4 b n l 1) = wrapOp 512#32 ir (ix4 b n l 0) := by
  pointwise [placeOp]

/-- The four places. -/
theorem place2 (ix ir : IVec S8x512x16 32) (b : Fin 8) (n : Fin 512) (l : Fin 16) :
    placeOp ix ir (ix4 b n l 2) = wrapOp 512#32 ix (ix4 b n l 0) := by
  pointwise [placeOp]

/-- The four places. -/
theorem place3 (ix ir : IVec S8x512x16 32) (b : Fin 8) (n : Fin 512) (l : Fin 16) :
    placeOp ix ir (ix4 b n l 3) = wrapOp 16#32 sliceOp (ix4 b n l 0) := by
  pointwise [placeOp]

/-- The four places as numbers. -/
theorem placeOp_at (ix ir : IVec S8x512x16 32) (sx sr : Fin 8 → Fin 16 → Fin 512 → EReal)
    (hx : ∀ b n l, ix (ix3 b n l) = BitVec.ofNat 32 (at_ (sx b l) n).val)
    (hr : ∀ b n l, ir (ix3 b n l) = BitVec.ofNat 32 (at_ (sr b l) n).val) (b : Fin 8) (n : Fin 512) (l : Fin 16) (k : Fin 4) :
    (placeOp ix ir (ix4 b n l k)).toInt = (![b.val, (at_ (sr b l) n).val, (at_ (sx b l) n).val, l.val] k : Nat) := by
  match k with
  | ⟨0, _⟩ => exact (congrArg BitVec.toInt (place0 ix ir b n l)).trans (wrapOp_at _ _ b n l _ (b.isLt.trans (by norm_num)) (batchOp_at b n l))
  | ⟨1, _⟩ => exact (congrArg BitVec.toInt (place1 ix ir b n l)).trans (wrapOp_at _ _ b n l _ (at_ (sr b l) n).isLt (hr b n l))
  | ⟨2, _⟩ => exact (congrArg BitVec.toInt (place2 ix ir b n l)).trans (wrapOp_at _ _ b n l _ (at_ (sx b l) n).isLt (hx b n l))
  | ⟨3, _⟩ => exact (congrArg BitVec.toInt (place3 ix ir b n l)).trans (wrapOp_at _ _ b n l _ (l.isLt.trans (by norm_num)) (sliceOp_at b n l))

/-- Where the plan reads the places of an update. -/
theorem siIdx_at (j : S8x512x16.Idx) (c : Fin 4) :
    scatter_S8x512x512x16_S8x512x16x4_S8x512x16_n_0123_0123_3.siIdx j c = (ix4 (j 0) (j 1) (j 2) c : S8x512x16x4.Idx) := by
  funext a
  match a with
  | ⟨0, _⟩ => rfl
  | ⟨1, _⟩ => rfl
  | ⟨2, _⟩ => rfl
  | ⟨3, _⟩ => rfl

/-- The place of an update, axis by axis. -/
theorem start_at (j : S8x512x16.Idx) (idx : IVec S8x512x16x4 32) (c : Fin 4) :
    scatter_S8x512x512x16_S8x512x16x4_S8x512x16_n_0123_0123_3.start j idx c = (idx (ix4 (j 0) (j 1) (j 2) c)).toInt := by
  have hm : c ∈ scatter_S8x512x512x16_S8x512x16x4_S8x512x16_n_0123_0123_3.scatterDimsToOperandDims := by
    fin_cases c <;> decide
  have hi : scatter_S8x512x512x16_S8x512x16x4_S8x512x16_n_0123_0123_3.scatterDimsToOperandDims.idxOf c = c.val := by
    fin_cases c <;> decide
  unfold ScatterDims.start
  rw [dif_pos hm]
  refine congrArg (fun z => (idx z).toInt) ((siIdx_at j ⟨_, List.idxOf_lt_length_iff.2 hm⟩).trans ?_)
  exact congrArg (ix4 (j 0) (j 1) (j 2)) (Fin.ext hi)

/-- An update is a single entry. -/
theorem window_at (j : S8x512x16.Idx) (c : Fin 4) :
    scatter_S8x512x512x16_S8x512x16x4_S8x512x16_n_0123_0123_3.window j c = 0 := by
  fin_cases c <;> rfl

/-- The plan. -/
theorem planOp_at (ix ir : IVec S8x512x16 32) (sx sr : Fin 8 → Fin 16 → Fin 512 → EReal)
    (hx : ∀ b n l, ix (ix3 b n l) = BitVec.ofNat 32 (at_ (sx b l) n).val)
    (hr : ∀ b n l, ir (ix3 b n l) = BitVec.ofNat 32 (at_ (sr b l) n).val)
    (b : Fin 8) (i n : Fin 512) (l : Fin 16) :
    planOp ix ir (ix4 b i n l) = if rk (sr b l) i = rk (sx b l) n then Spec.c512 else 0 := by
  have key : ∀ j : S8x512x16.Idx,
      scatter_S8x512x512x16_S8x512x16x4_S8x512x16_n_0123_0123_3.resultIdx? j (placeOp ix ir) = some (ix4 b i n l)
        ↔ (j = ix3 b ⟨rk (sr b l) i, rk_lt _ _⟩ l ∧ rk (sr b l) i = rk (sx b l) n) := by
    intro j
    rw [Routing.resultIdx?_eq_some]
    have hs : ∀ a : Fin 4, scatter_S8x512x512x16_S8x512x16x4_S8x512x16_n_0123_0123_3.start j (placeOp ix ir) a
        + (scatter_S8x512x512x16_S8x512x16x4_S8x512x16_n_0123_0123_3.window j a : Int)
        = (![(j 0).val, (at_ (sr (j 0) (j 2)) (j 1)).val, (at_ (sx (j 0) (j 2)) (j 1)).val, (j 2).val] a : Nat) := fun a => by
      rw [start_at, window_at]
      refine (add_zero _).trans (placeOp_at ix ir sx sr hx hr (j 0) (j 1) (j 2) a)
    constructor
    · intro h
      have h0 := (hs 0).symm.trans (h 0)
      have h1 := (hs 1).symm.trans (h 1)
      have h2 := (hs 2).symm.trans (h 2)
      have h3 := (hs 3).symm.trans (h 3)
      have e0 : j 0 = b := Fin.ext (Int.ofNat.inj h0)
      have e3 : j 2 = l := Fin.ext (Int.ofNat.inj h3)
      have e1 : at_ (sr (j 0) (j 2)) (j 1) = i := Fin.ext (Int.ofNat.inj h1)
      have e2 : at_ (sx (j 0) (j 2)) (j 1) = n := Fin.ext (Int.ofNat.inj h2)
      rw [e0, e3] at e1 e2
      have r1 := (eq_at_iff _ _ _).1 e1
      have r2 := (eq_at_iff _ _ _).1 e2
      refine ⟨?_, r1.trans r2.symm⟩
      funext a
      match a with
      | ⟨0, _⟩ => exact e0
      | ⟨1, _⟩ => exact Fin.ext r1.symm
      | ⟨2, _⟩ => exact e3
    · rintro ⟨rfl, hr⟩ a
      refine (hs a).trans ?_
      match a with
      | ⟨0, _⟩ => rfl
      | ⟨1, _⟩ => exact congrArg (fun z : Fin 512 => (z.val : Int)) ((eq_at_iff _ _ _).2 rfl)
      | ⟨2, _⟩ => exact congrArg (fun z : Fin 512 => (z.val : Int)) ((eq_at_iff _ _ _).2 hr.symm)
      | ⟨3, _⟩ => rfl
  have h0 : planOp ix ir (ix4 b i n l) = Ideal.ofBits .f32 0x00000000#32
      + ∑ j ∈ Finset.univ.filter (fun j => scatter_S8x512x512x16_S8x512x16x4_S8x512x16_n_0123_0123_3.resultIdx? j (placeOp ix ir) = some (ix4 b i n l)), Spec.c512 := rfl
  have hz : Ideal.ofBits .f32 0x00000000#32 = 0 := by simp [Ideal.ofBits, Ideal.ieee]
  rw [h0, hz, zero_add, Finset.sum_filter]
  rw [Finset.sum_congr rfl (g := fun j => if j = ix3 b ⟨rk (sr b l) i, rk_lt _ _⟩ l then
    (if rk (sr b l) i = rk (sx b l) n then Spec.c512 else 0) else 0)]
  · rw [Finset.sum_ite_eq' Finset.univ _ (fun _ => if rk (sr b l) i = rk (sx b l) n then Spec.c512 else 0), if_pos (Finset.mem_univ _)]
  · intro j _
    rw [← ite_and]
    exact if_congr (key j) rfl rfl

/-- The row maxima. -/
theorem rowMaxOp_at (v : FVec Ideal S8x16x512x512 .f32) (b : Fin 8) (l : Fin 16) (i : Fin 512) :
    rowMaxOp v (ix3 b l i) = Finset.univ.sup fun n => v (ix4 b l i n) := by
  have h := Host.reduce_eq_fold (max : EReal → EReal → EReal) v (constant (F := Ideal) S_ .f32 0xFF800000#32) reducesTo_S8x16x512x512_S8x16x512_d3 h_S_ (ix3 b l i)
  have e : (constant (F := Ideal) S_ .f32 0xFF800000#32) (Shape.Idx.first h_S_) = (⊥ : EReal) := bits_neg_inf
  rw [e, Shape.ReducesTo.fold_fiber_r4_a3] at h
  exact h

/-- The exponentials. -/
theorem softFromOp_at (v : FVec Ideal S8x16x512x512 .f32) (q : FVec Ideal S8x16x512 .f32) (b : Fin 8) (l : Fin 16) (i n : Fin 512) :
    softFromOp v q (ix4 b l i n) = Ideal.exp (v (ix4 b l i n) - max (Ideal.ofBits .f32 0xFF800000#32) (q (ix3 b l i))) := by
  pointwise [softFromOp]

/-- The soft sort's weights. -/
theorem softEOp_at (v : FVec Ideal S8x16x512x512 .f32) (b : Fin 8) (l : Fin 16) (i n : Fin 512) :
    softEOp v (ix4 b l i n) = Ideal.exp (v (ix4 b l i n) - Finset.univ.sup fun n => v (ix4 b l i n)) := by
  refine (softFromOp_at v (rowMaxOp v) b l i n).trans ?_
  rw [bits_neg_inf, rowMaxOp_at]
  exact congrArg (fun z => Ideal.exp (_ - z)) (max_eq_right bot_le)

/-- The negated squares. -/
theorem logitOp_at (v : FVec Ideal S8x16x512x512 .f32) (b : Fin 8) (l : Fin 16) (i n : Fin 512) :
    logitOp v (ix4 b l i n) = -(v (ix4 b l i n) * v (ix4 b l i n)) := by
  pointwise [logitOp]
  exact div_one_bits _

/-- The differences from the sorted values. -/
theorem diffOp_at (v : FVec Ideal S8x16x512 .f32) (b : Fin 8) (l : Fin 16) (i n : Fin 512) :
    diffOp v (ix4 b l i n) = v (ix3 b l n) - desc (fun n => v (ix3 b l n)) i := by
  pointwise [diffOp]
  exact congrArg (v (ix3 b l n) - ·) (sort_at v b l i)

/-- Of negated values the greatest is the least, negated. -/
theorem sup_neg {n : Nat} (q : Fin n → EReal) : (Finset.univ.sup fun k => -q k) = -Finset.univ.inf q := by
  apply le_antisymm
  · exact Finset.sup_le fun k _ => EReal.neg_le_neg_iff.2 (Finset.inf_le (Finset.mem_univ k))
  · rw [EReal.neg_le]
    exact Finset.le_inf fun k _ => EReal.neg_le.1 (Finset.le_sup (f := fun k => -q k) (Finset.mem_univ k))

/-- The soft sort's weights of projections. -/
theorem softV_at (v : FVec Ideal S8x512x16 .f32) (s : Fin 512 → EReal) (b : Fin 8) (l : Fin 16) (h : ∀ n, v (ix3 b n l) = s n)
    (i n : Fin 512) : softV v (ix4 b l i n) = softE s i n := by
  have hs : (fun n => rowsOp v (ix3 b l n)) = s := funext fun n => (rowsOp_at v b l n).trans (h n)
  have hl : ∀ k, logitOp (diffOp (rowsOp v)) (ix4 b l i k) = -sq s i k := fun k => by
    rw [logitOp_at, diffOp_at, hs]
    exact congrArg (fun z => -((z - desc s i) * (z - desc s i))) (congrFun hs k)
  have hl' : (fun k => logitOp (diffOp (rowsOp v)) (ix4 b l i k)) = fun k => -sq s i k := funext hl
  refine (softEOp_at _ b l i n).trans ?_
  rw [hl', hl, sup_neg]
  unfold softE
  rw [sub_eq_add_neg, neg_neg, add_comm, ← sub_eq_add_neg]

/-- The soft sort's division. -/
theorem softDivOp_at (e : FVec Ideal S8x16x512x512 .f32) (b : Fin 8) (l : Fin 16) (i n : Fin 512) :
    softDivOp e (ix4 b l i n) = Ideal.div (e (ix4 b l i n)) (∑ k, e (ix4 b l i k)) := by
  pointwise [softDivOp]

/-- The soft sort of projections. -/
theorem soft_at (v : FVec Ideal S8x512x16 .f32) (s : Fin 512 → EReal) (b : Fin 8) (l : Fin 16) (h : ∀ n, v (ix3 b n l) = s n)
    (i n : Fin 512) : softDivOp (softV v) (ix4 b l i n) = soft s i n := by
  refine (softDivOp_at _ b l i n).trans ?_
  exact congrArg₂ Ideal.div (softV_at v s b l h i n) (Finset.sum_congr rfl fun k _ => softV_at v s b l h i k)

/-- The distances times the soft plan. -/
theorem pairOp_at (c : FVec Ideal S8x512x512 .f32) (sr sx : FVec Ideal S8x16x512x512 .f32) (b : Fin 8) (l : Fin 16) (i n : Fin 512) :
    pairOp c sr sx (ix4 b l i n) = c (ix3 b i n)
      * Ideal.div (∑ k, sr (ix4 b l i k) * sx (ix4 b l n k)) (Ideal.ofBits .f32 0x44000000#32) := by
  pointwise [pairOp]

/-- The mean over the batch of the sums of all pairs. -/
theorem meanOp_at (y : FVec Ideal S8x16x512x512 .f32) (l : Fin 16) :
    meanOp y (ix1 l) = Ideal.div (∑ b, ∑ i, ∑ n, y (ix4 b l i n)) (Ideal.ofBits .f32 0x41000000#32) := by
  pointwise [meanOp]
  exact congrArg (Ideal.div · _) (Finset.sum_congr rfl fun b _ => sum32 y b l)

end Cert.ReferenceIdeal.Hand

end
-- ==== Proof.Run.Equal.lean ====
module
public import proofs.«01_k».proof.Proof.Run.Spec

/-! Why the two programs agree at the ideal instance: sums of extended reals, the rows of a soft
sort, and the two results. -/

@[expose] public section

noncomputable section

namespace Cert.Spec

open Cert.Ranks
open Idealize.ShloMosaic
open scoped BigOperators

/-! ## Sums of extended reals -/

/-- A positive real factor comes out of a sum of any extended reals. -/
theorem sum_mul_real {ι : Type} (s : Finset ι) (f : ι → EReal) (c : ℝ) (hc : 0 ≤ c) :
    (∑ i ∈ s, f i) * (c : EReal) = ∑ i ∈ s, f i * c := by
  classical
  induction s using Finset.induction_on with
  | empty => simp
  | insert a s ha ih =>
    rw [Finset.sum_insert ha, Finset.sum_insert ha, ← ih,
      EReal.right_distrib_of_nonneg_of_ne_top (EReal.coe_nonneg.2 hc) (EReal.coe_ne_top c)]

/-- Any factor goes into a sum of terms that are not negative. -/
theorem mul_sum_nonneg {ι : Type} (s : Finset ι) (f : ι → EReal) (c : EReal) (hf : ∀ i, 0 ≤ f i) :
    c * (∑ i ∈ s, f i) = ∑ i ∈ s, c * f i := by
  classical
  induction s using Finset.induction_on with
  | empty => simp
  | insert a s ha ih =>
    rw [Finset.sum_insert ha, Finset.sum_insert ha, ← ih,
      EReal.left_distrib_of_nonneg (hf a) (Finset.sum_nonneg fun i _ => hf i)]

/-- A sum with a term at minus infinity is there too. -/
theorem sum_bot {n : Nat} (f : Fin n → EReal) (i : Fin n) (h : f i = ⊥) : (∑ k, f k) = ⊥ := by
  rw [← Finset.add_sum_erase _ _ (Finset.mem_univ i), h]
  exact EReal.bot_add _

/-- A sum of reals is a real. -/
theorem sum_real {ι : Type} (s : Finset ι) (f : ι → EReal) (h : ∀ i, ∃ r : ℝ, f i = r) :
    ∃ r : ℝ, (∑ i ∈ s, f i) = r := by
  classical
  induction s using Finset.induction_on with
  | empty => exact ⟨0, by simp⟩
  | insert a s ha ih =>
    obtain ⟨x, hx⟩ := ih
    obtain ⟨y, hy⟩ := h a
    exact ⟨y + x, by rw [Finset.sum_insert ha, hx, hy, EReal.coe_add]⟩

/-- Dividing by a real that is not zero. -/
theorem div_real (x : EReal) (c : ℝ) (hc : c ≠ 0) : Ideal.div x (c : EReal) = x * ((c⁻¹ : ℝ) : EReal) := by
  rw [Ideal.div, if_neg (by exact_mod_cast hc), EReal.coe_inv]

/-- A square is not negative. -/
theorem mul_self_nonneg' (x : EReal) : 0 ≤ x * x := by
  induction x with
  | bot => simp
  | top => simp
  | coe r => exact_mod_cast mul_self_nonneg r

/-! ## The words of the constants -/

/-- One over the number of points is 1/512. -/
theorem c512_real : c512 = ((1 / 512 : ℝ) : EReal) := by
  unfold c512; simp [Ideal.ofBits, Ideal.ieee]; rw [← EReal.coe_mul]; norm_num

/-- The word of 512. -/
theorem bits_512 : Ideal.ofBits .f32 0x44000000#32 = ((512 : ℝ) : EReal) := by
  simp [Ideal.ofBits, Ideal.ieee]; rw [← EReal.coe_mul]; norm_num

/-- The word of 8. -/
theorem bits_8 : Ideal.ofBits .f32 0x41000000#32 = ((8 : ℝ) : EReal) := by
  simp [Ideal.ofBits, Ideal.ieee]; rw [← EReal.coe_mul]; norm_num

/-- The word of 1/4096. -/
theorem bits_4096 : Ideal.ofBits .f32 0x39800000#32 = ((1 / 4096 : ℝ) : EReal) := by
  simp [Ideal.ofBits, Ideal.ieee]; rw [← EReal.coe_mul]; norm_num

/-- The floor of the squared distance is a positive real. -/
theorem bits_small : ∃ r : ℝ, 0 < r ∧ Ideal.ofBits .f32 0x2B8CBCCC#32 = (r : EReal) :=
  ⟨9223372 * 2 ^ (-63 : ℤ), by positivity, by simp [Ideal.ofBits, Ideal.ieee]⟩

/-! ## The embeddings -/

/-- The cost of a plan with the number of points in its entries. -/
theorem ed_eq (c : Fin 512 → Fin 512 → EReal) (sr sx : Fin 512 → EReal) :
    (∑ i, ∑ n, c i n * if rk sr i = rk sx n then c512 else 0) = ed c sr sx := by
  unfold ed
  rw [c512_real, sum_mul_real _ _ _ (by norm_num)]
  refine Finset.sum_congr rfl fun i _ => ?_
  rw [sum_mul_real _ _ _ (by norm_num)]
  refine Finset.sum_congr rfl fun n _ => ?_
  split
  · rfl
  · rw [mul_zero, zero_mul]

/-- The expected plan with the number of points in its entries. -/
theorem mix_eq (sr sx : Fin 16 → Fin 512 → EReal) (w : Fin 16 → EReal) (i n : Fin 512) :
    (∑ l, (if rk (sr l) i = rk (sx l) n then c512 else 0) * w l) = mix sr sx w i n * c512 := by
  unfold mix
  rw [c512_real, sum_mul_real _ _ _ (by norm_num)]
  refine Finset.sum_congr rfl fun l _ => ?_
  split
  · exact mul_comm _ _
  · rw [zero_mul, zero_mul]

/-- The embedding from the expected plan. -/
theorem emb_eq (E : Fin 512 → Fin 512 → EReal) (r x : Fin 512 → Fin 128 → EReal) (i : Fin 512) (d : Fin 128) :
    Ideal.div (∑ n, E i n * c512 * x n d) ((∑ n, E i n * c512) + Ideal.ofBits .f32 0x322BCC77#32) - r i d = emb E r x i d := by
  have e : (∑ n, E i n * c512 * x n d) = (∑ n, E i n * x n d) * c512 := by
    rw [c512_real, sum_mul_real _ _ _ (by norm_num)]
    exact Finset.sum_congr rfl fun n _ => mul_right_comm _ _ _
  have e' : (∑ n, E i n * c512) = (∑ n, E i n) * c512 := by
    rw [c512_real, sum_mul_real _ _ _ (by norm_num)]
  unfold emb
  rw [e, e']

/-! ## The rows of a soft sort -/

/-- An exponential is not negative. -/
theorem exp_nonneg (x : EReal) : 0 ≤ Ideal.exp x := by
  induction x with
  | bot => exact le_rfl
  | top => exact le_top
  | coe r => exact EReal.coe_nonneg.2 (Real.exp_pos r).le

/-- The squared differences are not negative. -/
theorem sq_nonneg (s : Fin 512 → EReal) (i n : Fin 512) : 0 ≤ sq s i n := mul_self_nonneg' _

/-- A row whose every square is infinite is minus infinity throughout. -/
theorem soft_bot (s : Fin 512 → EReal) (i : Fin 512) (h : ∀ n, sq s i n = ⊤) (n : Fin 512) : soft s i n = ⊥ := by
  have hi : Finset.univ.inf (sq s i) = ⊤ := by
    rw [Finset.inf_eq_top_iff]
    exact fun n _ => h n
  have he : ∀ k, softE s i k = 0 := fun k => by
    unfold softE
    rw [hi, h k]
    rfl
  unfold soft
  simp only [he, Finset.sum_const_zero]
  simp [Ideal.div]

/-- Any other row is not negative, and somewhere positive. -/
theorem soft_pos (s : Fin 512 → EReal) (i : Fin 512) (h : ∃ n, sq s i n ≠ ⊤) :
    (∀ n, 0 ≤ soft s i n) ∧ ∃ n, 0 < soft s i n := by
  obtain ⟨n₁, h₁⟩ := h
  obtain ⟨n₀, -, h₀⟩ := Finset.exists_mem_eq_inf (Finset.univ : Finset (Fin 512)) ⟨0, Finset.mem_univ _⟩ (sq s i)
  have ht : sq s i n₀ ≠ ⊤ := fun e => h₁ (top_le_iff.1 (e ▸ h₀ ▸ Finset.inf_le (Finset.mem_univ n₁)))
  have hb : sq s i n₀ ≠ ⊥ := fun e => absurd (sq_nonneg s i n₀) (by rw [e]; simp)
  obtain ⟨r, hr⟩ : ∃ r : ℝ, sq s i n₀ = r := ⟨_, (EReal.coe_toReal ht hb).symm⟩
  have hE : ∀ k, ∃ t : ℝ, softE s i k = t := fun k => by
    unfold softE
    rw [h₀, hr]
    have hk := sq_nonneg s i k
    generalize sq s i k = q at hk
    induction q with
    | bot => simp at hk
    | top => exact ⟨0, rfl⟩
    | coe t => exact ⟨Real.exp (r - t), rfl⟩
  have h1 : softE s i n₀ = 1 := by
    unfold softE
    rw [h₀, hr, ← EReal.coe_sub, sub_self]
    exact congrArg Real.toEReal Real.exp_zero
  have hn : ∀ k, 0 ≤ softE s i k := fun k => exp_nonneg _
  obtain ⟨S, hS⟩ := sum_real Finset.univ (softE s i) hE
  have hS1 : (1 : EReal) ≤ ∑ k, softE s i k := h1 ▸ Finset.single_le_sum (fun k _ => hn k) (Finset.mem_univ n₀)
  have hS' : 1 ≤ S := by rw [hS] at hS1; exact_mod_cast hS1
  have hp : 0 < S⁻¹ := inv_pos.2 (by linarith)
  have hd : ∀ k, soft s i k = softE s i k * ((S⁻¹ : ℝ) : EReal) := fun k => by
    unfold soft
    rw [hS]
    exact div_real _ _ (by linarith)
  refine ⟨fun k => ?_, n₀, ?_⟩
  · rw [hd]; exact EReal.mul_nonneg (hn k) (EReal.coe_nonneg.2 hp.le)
  · rw [hd, h1, one_mul]; exact EReal.coe_pos.2 hp

/-- Every row of a soft sort is minus infinity throughout, or nowhere negative and somewhere positive. -/
theorem soft_cases (s : Fin 512 → EReal) (i : Fin 512) :
    (∀ n, soft s i n = ⊥) ∨ (∀ n, 0 ≤ soft s i n) ∧ ∃ n, 0 < soft s i n := by
  by_cases h : ∀ n, sq s i n = ⊤
  · exact .inl (soft_bot s i h)
  · exact .inr (soft_pos s i (not_forall.1 h))

/-- A soft sort of values of which one is a real has a proper row: the row of that value's place. -/
theorem soft_real (s : Fin 512 → EReal) (hs : ∃ n, ∃ r : ℝ, s n = r) :
    ∃ i, (∀ n, 0 ≤ soft s i n) ∧ ∃ n, 0 < soft s i n := by
  obtain ⟨n, r, hr⟩ := hs
  refine ⟨(rkE s n).rev, soft_pos s _ ⟨n, ?_⟩⟩
  have e : at_ s (rkE s n) = n := (eq_at_iff s _ n).2 (rkE_val s n).symm
  unfold sq desc
  rw [Fin.rev_rev, e, hr, ← EReal.coe_sub, sub_self, EReal.coe_zero, mul_zero]
  exact EReal.zero_ne_top

/-! ## The projections of a finite reference point -/

/-- The root of a positive value is positive. -/
theorem sqrt_pos {x : EReal} (h : 0 < x) : 0 < Ideal.sqrt x := by
  induction x with
  | bot => simp at h
  | top => exact h
  | coe r =>
    have hr : 0 < r := by exact_mod_cast h
    show 0 < (if r < 0 then ⊥ else (Real.sqrt r : EReal))
    rw [if_neg hr.not_gt]
    exact EReal.coe_pos.2 (Real.sqrt_pos.2 hr)

/-- The costs are positive. -/
theorem cost_pos (r x : Fin 512 → Fin 128 → EReal) (i n : Fin 512) : 0 < cost r x i n := by
  obtain ⟨e, he, h⟩ := bits_small
  exact sqrt_pos (lt_max_of_lt_right (by rw [h]; exact EReal.coe_pos.2 he))

/-- The direction of a weight row that is not zero is finite, whatever the row's entries: an infinite entry makes the
row's length infinite, and the direction zero. -/
theorem dir_real (w : Fin 16 → Fin 128 → EReal) (l : Fin 16) (h0 : ∃ d, w l d ≠ 0) (d : Fin 128) : ∃ t : ℝ, dirW w l d = t := by
  have hle : ∀ d, w l d * w l d ≤ ∑ d', w l d' * w l d' := fun d =>
    Finset.single_le_sum (f := fun d => w l d * w l d) (fun d _ => mul_self_nonneg' _) (Finset.mem_univ d)
  have hnn : 0 ≤ ∑ d', w l d' * w l d' := Finset.sum_nonneg fun d _ => mul_self_nonneg' _
  unfold dirW
  generalize hS : (∑ d', w l d' * w l d') = S at hle hnn
  induction S with
  | bot => simp at hnn
  | top =>
    refine ⟨0, ?_⟩
    show Ideal.div (w l d) ⊤ = _
    rw [Ideal.div, if_neg EReal.top_ne_zero, EReal.inv_top, mul_zero, EReal.coe_zero]
  | coe S =>
    have hw : ∀ d, ∃ t : ℝ, w l d = t := fun d => by
      have h := hle d
      generalize w l d = x at h
      induction x with
      | bot => simp at h
      | top => simp at h
      | coe t => exact ⟨t, rfl⟩
    obtain ⟨d₀, hd₀⟩ := h0
    obtain ⟨t, ht⟩ := hw d₀
    have hpos : 0 < S := by
      have h1 := hle d₀
      rw [ht, ← EReal.coe_mul, EReal.coe_le_coe_iff] at h1
      have ht0 : t ≠ 0 := fun e => hd₀ (by rw [ht, e, EReal.coe_zero])
      exact (mul_self_pos.2 ht0).trans_le h1
    obtain ⟨u, hu⟩ := hw d
    have e : Ideal.sqrt (S : EReal) = (Real.sqrt S : EReal) := if_neg hpos.not_gt
    rw [e, div_real _ _ (Real.sqrt_pos.2 hpos).ne', hu]
    exact ⟨_, (EReal.coe_mul _ _).symm⟩

/-- The projection of a finite reference point on the direction of a weight row that is not zero is finite. -/
theorem proj_real (r : Fin 512 → Fin 128 → EReal) (w : Fin 16 → Fin 128 → EReal) (l : Fin 16) (n : Fin 512)
    (hr : ∀ d, ∃ t : ℝ, r n d = t) (h0 : ∃ d, w l d ≠ 0) : ∃ t : ℝ, proj r w l n = t := by
  refine sum_real _ _ fun d => ?_
  obtain ⟨a, ha⟩ := hr d
  obtain ⟨b, hb⟩ := dir_real w l h0 d
  exact ⟨a * b, by rw [ha, hb, EReal.coe_mul]⟩

/-! ## The soft distances -/

/-- One row of the plan of two soft sorts, summed the one way: minus infinity when a point's row is. -/
theorem row_bot (a c : Fin 512 → EReal) (s : Fin 512 → Fin 512 → EReal) (hp : ∃ k, 0 < a k) (hc : ∀ n, 0 < c n)
    (hb : ∃ n, ∀ k, s n k = ⊥) : (∑ k, a k * ∑ n, c n * s n k) = ⊥ := by
  obtain ⟨k₀, hk₀⟩ := hp
  obtain ⟨n₀, hn₀⟩ := hb
  exact sum_bot _ k₀ (by
    rw [sum_bot (fun n => c n * s n k₀) n₀ (by rw [hn₀, EReal.mul_bot_of_pos (hc n₀)]), EReal.mul_bot_of_pos hk₀])

/-- The same summed the other way. -/
theorem row_bot' (a c : Fin 512 → EReal) (s : Fin 512 → Fin 512 → EReal) (hp : ∃ k, 0 < a k) (hc : ∀ n, 0 < c n)
    (hb : ∃ n, ∀ k, s n k = ⊥) : (∑ n, c n * ∑ k, a k * s n k) = ⊥ := by
  obtain ⟨k₀, hk₀⟩ := hp
  obtain ⟨n₀, hn₀⟩ := hb
  exact sum_bot _ n₀ (by
    rw [sum_bot (fun k => a k * s n₀ k) k₀ (by rw [hn₀, EReal.mul_bot_of_pos hk₀]), EReal.mul_bot_of_pos (hc n₀)])

/-- The two orders of summing one row of the plan agree when no point's row is minus infinity, whatever the reference's
row is. -/
theorem exchange (a c : Fin 512 → EReal) (s : Fin 512 → Fin 512 → EReal)
    (ha : (∀ k, a k = ⊥) ∨ (∀ k, 0 ≤ a k) ∧ ∃ k, 0 < a k) (hc : ∀ n, 0 < c n)
    (hs : ∀ n, (∀ k, 0 ≤ s n k) ∧ ∃ k, 0 < s n k) :
    (∑ k, a k * ∑ n, c n * s n k) = ∑ n, c n * ∑ k, a k * s n k := by
  have hn : ∀ n k, 0 ≤ c n * s n k := fun n k => EReal.mul_nonneg (hc n).le ((hs n).1 k)
  rcases ha with ha | ⟨ha, -⟩
  · obtain ⟨k₀, hk₀⟩ := (hs 0).2
    have hS : 0 < ∑ n, c n * s n k₀ := (EReal.mul_pos (hc 0) hk₀).trans_le
      (Finset.single_le_sum (f := fun n => c n * s n k₀) (fun n _ => hn n k₀) (Finset.mem_univ 0))
    rw [sum_bot _ k₀ (by rw [ha, EReal.bot_mul_of_pos hS]), sum_bot _ 0 (by
      rw [sum_bot (fun k => a k * s 0 k) k₀ (by rw [ha, EReal.bot_mul_of_pos hk₀]), EReal.mul_bot_of_pos (hc 0)])]
  · have l : ∀ k, a k * (∑ n, c n * s n k) = ∑ n, a k * (c n * s n k) := fun k => mul_sum_nonneg _ _ _ fun n => hn n k
    have r : ∀ n, c n * (∑ k, a k * s n k) = ∑ k, c n * (a k * s n k) := fun n =>
      mul_sum_nonneg _ _ _ fun k => EReal.mul_nonneg (ha k) ((hs n).1 k)
    simp only [l, r]
    rw [Finset.sum_comm]
    exact Finset.sum_congr rfl fun n _ => Finset.sum_congr rfl fun k _ => mul_left_comm _ _ _

/-- The two orders of summing the whole plan agree when the reference has a proper row. -/
theorem exchange_all (c : Fin 512 → Fin 512 → EReal) (sr sx : Fin 512 → EReal) (hr : ∃ n, ∃ t : ℝ, sr n = t)
    (hc : ∀ i n, 0 < c i n) :
    (∑ i, ∑ k, soft sr i k * ∑ n, c i n * soft sx n k) = ∑ i, ∑ n, c i n * ∑ k, soft sr i k * soft sx n k := by
  by_cases hb : ∃ n, ∀ k, soft sx n k = ⊥
  · obtain ⟨i, -, hp⟩ := soft_real sr hr
    rw [sum_bot _ i (row_bot _ _ _ hp (hc i) hb), sum_bot _ i (row_bot' _ _ _ hp (hc i) hb)]
  · exact Finset.sum_congr rfl fun i _ => exchange _ _ _ (soft_cases sr i) (hc i) fun n =>
      (soft_cases sx n).resolve_left fun h => hb ⟨n, h⟩

/-- The soft distance of a slice, both ways. -/
theorem dist_eq (c : Fin 8 → Fin 512 → Fin 512 → EReal) (sr : Fin 512 → EReal) (sx : Fin 8 → Fin 512 → EReal)
    (hr : ∃ n, ∃ t : ℝ, sr n = t) (hc : ∀ b i n, 0 < c b i n) :
    (∑ b, (∑ i, ∑ k, soft sr i k * ∑ n, c b i n * soft (sx b) n k) * Ideal.ofBits .f32 0x39800000#32)
      = Ideal.div (∑ b, ∑ i, ∑ n, c b i n * Ideal.div (∑ k, soft sr i k * soft (sx b) n k) (Ideal.ofBits .f32 0x44000000#32))
          (Ideal.ofBits .f32 0x41000000#32) := by
  rw [bits_512, bits_8, bits_4096, div_real _ _ (by norm_num), sum_mul_real _ _ _ (by norm_num)]
  refine Finset.sum_congr rfl fun b _ => ?_
  have e : ((1 / 4096 : ℝ) : EReal) = ((512⁻¹ : ℝ) : EReal) * ((8⁻¹ : ℝ) : EReal) := by
    rw [← EReal.coe_mul]; norm_num
  rw [exchange_all (c b) sr (sx b) hr (hc b), e, ← mul_assoc]
  refine congrArg (· * _) ?_
  rw [sum_mul_real _ _ _ (by norm_num)]
  refine Finset.sum_congr rfl fun i _ => ?_
  rw [sum_mul_real _ _ _ (by norm_num)]
  refine Finset.sum_congr rfl fun n _ => ?_
  rw [div_real _ _ (by norm_num), mul_assoc]

end Cert.Spec

end
-- ==== Proof.Run.ValR.lean ====
module
public import proofs.«01_k».proof.Proof.Run.ReadR
public import proofs.«01_k».proof.Proof.Run.Equal

/-! The reference's two results at the ideal instance, entry by entry, from its three arguments. -/

@[expose] public section

set_option maxRecDepth 16384

noncomputable section

namespace Cert.ReferenceIdeal.Hand

open Cert.ReferenceIdeal Cert.ReferenceIdeal.Gen Cert.Spec Cert.Ranks
open Idealize.ShloMosaic Idealize.ShloMosaic.TcCoe
open scoped BigOperators

variable (x : FVec Ideal S8x512x128 .f32) (r : FVec Ideal S512x128 .f32) (w : FVec Ideal S16x128 .f32)
variable (X : Fin 8 → Fin 512 → Fin 128 → EReal) (R : Fin 512 → Fin 128 → EReal) (W : Fin 16 → Fin 128 → EReal)

/-- The plan of a batch. -/
theorem planV_at (hX : ∀ b, (fun n d => x (ix3 b n d)) = X b) (hR : (fun n d => r (ix2 n d)) = R)
    (hW : (fun l d => w (ix2 l d)) = W) (b : Fin 8) (i n : Fin 512) (l : Fin 16) :
    planV x r w (ix4 b i n l) = if rk (proj R W l) i = rk (proj (X b) W l) n then c512 else 0 := by
  refine planOp_at _ _ (fun b l => proj (X b) W l) (fun _ l => proj R W l) (fun b n l => ?_) (fun b n l => ?_) b i n l
  · refine (argOp_at _ b n l).trans ?_
    rw [show (fun n => projXOp x w (ix3 b n l)) = proj (X b) W l from
      funext fun n => (projXOp_at x w b n l).trans (by rw [hX, hW])]
  · refine (argOp_at _ b n l).trans ?_
    rw [show (fun n => projROp r w (ix3 b n l)) = proj R W l from
      funext fun n => (projROp_at r w b n l).trans (by rw [hR, hW])]

/-- The plan costs of a batch, negated. -/
theorem edV_at (hX : ∀ b, (fun n d => x (ix3 b n d)) = X b) (hR : (fun n d => r (ix2 n d)) = R)
    (hW : (fun l d => w (ix2 l d)) = W) (b : Fin 8) (l : Fin 16) :
    edOp (costOp x r) (planV x r w) (ix2 b l) = -ed (cost R (X b)) (proj R W l) (proj (X b) W l) := by
  refine (edOp_at _ _ b l).trans (congrArg Neg.neg ?_)
  rw [← ed_eq]
  refine Finset.sum_congr rfl fun i _ => Finset.sum_congr rfl fun n _ => congrArg₂ (· * ·) ?_ ?_
  · exact (costOp_at x r b i n).trans (by rw [hX, hR])
  · exact planV_at x r w X R W hX hR hW b i n l

/-- The expected plan of a batch. -/
theorem mixV_at (hX : ∀ b, (fun n d => x (ix3 b n d)) = X b) (hR : (fun n d => r (ix2 n d)) = R)
    (hW : (fun l d => w (ix2 l d)) = W) (b : Fin 8) (i n : Fin 512) :
    mixV x r w (ix3 b i n) = mix (proj R W) (proj (X b) W)
      (wt fun l => ed (cost R (X b)) (proj R W l) (proj (X b) W l)) i n * c512 := by
  have hw : ∀ l, wOp (edOp (costOp x r) (planV x r w)) (ix2 b l)
      = wE (fun l => ed (cost R (X b)) (proj R W l) (proj (X b) W l)) l := fun l =>
    wOp_at _ _ b l fun k => edV_at x r w X R W hX hR hW b k
  refine (mixOp_at _ _ b i n).trans ?_
  rw [← mix_eq]
  refine Finset.sum_congr rfl fun l _ => congrArg₂ (· * ·) (planV_at x r w X R W hX hR hW b i n l) ?_
  exact congrArg₂ Ideal.div (hw l) (Finset.sum_congr rfl fun k _ => hw k)

/-- The reference's embeddings. -/
theorem embV_at (hX : ∀ b, (fun n d => x (ix3 b n d)) = X b) (hR : (fun n d => r (ix2 n d)) = R)
    (hW : (fun l d => w (ix2 l d)) = W) (b : Fin 8) (i : Fin 512) (d : Fin 128) :
    embV x r w (ix3 b i d) = emb (mix (proj R W) (proj (X b) W)
      (wt fun l => ed (cost R (X b)) (proj R W l) (proj (X b) W l))) R (X b) i d := by
  refine (embOp_at _ x r b i d).trans ?_
  rw [← emb_eq]
  refine congrArg₂ (fun u v : EReal => u - v) (congrArg₂ Ideal.div ?_ (congrArg (· + Ideal.ofBits .f32 0x322BCC77#32) ?_)) (congrFun (congrFun hR i) d)
  · exact Finset.sum_congr rfl fun n _ => congrArg₂ (· * ·) (mixV_at x r w X R W hX hR hW b i n) (congrFun (congrFun (hX b) n) d)
  · exact Finset.sum_congr rfl fun n _ => mixV_at x r w X R W hX hR hW b i n

/-- The reference's soft distances. -/
theorem distV_at (hX : ∀ b, (fun n d => x (ix3 b n d)) = X b) (hR : (fun n d => r (ix2 n d)) = R)
    (hW : (fun l d => w (ix2 l d)) = W) (l : Fin 16) :
    distV x r w (ix1 l) = Ideal.div (∑ b, ∑ i, ∑ n, cost R (X b) i n
      * Ideal.div (∑ k, soft (proj R W l) i k * soft (proj (X b) W l) n k) (Ideal.ofBits .f32 0x44000000#32))
        (Ideal.ofBits .f32 0x41000000#32) := by
  refine (meanOp_at _ l).trans (congrArg (fun z : EReal => Ideal.div z (Ideal.ofBits .f32 0x41000000#32)) ?_)
  refine Finset.sum_congr rfl fun b _ => Finset.sum_congr rfl fun i _ => Finset.sum_congr rfl fun n _ => ?_
  refine (pairOp_at _ _ _ b l i n).trans (congrArg₂ (· * ·) ((costOp_at x r b i n).trans (by rw [hX, hR])) ?_)
  refine congrArg (fun z : EReal => Ideal.div z (Ideal.ofBits .f32 0x44000000#32)) ?_
  refine Finset.sum_congr rfl fun k _ => congrArg₂ (· * ·) ?_ ?_
  · exact soft_at _ _ b l (fun n => (projROp_at r w b n l).trans (by rw [hR, hW])) i k
  · exact soft_at _ _ b l (fun n => (projXOp_at x w b n l).trans (by rw [hX, hW])) n k

end Cert.ReferenceIdeal.Hand

end
-- ==== Proof.Run.Cond.lean ====
module
public import proofs.«01_k».proof.Proof.Gen.Pre_a_finite_point_and_directions
public import Idealize.ShloMosaic.Lib.Pointwise
public import Idealize.ShloMosaic.Lib.ReduceAll
public import Idealize.ShloMosaic.Lib.IdealHost

/-! What the precondition says: some reference point is finite, and no weight row is zero. -/

@[expose] public section

set_option maxRecDepth 16384

noncomputable section

namespace Cert.Cond

open Cert.Pre_a_finite_point_and_directions Cert.Pre_a_finite_point_and_directions.Gen
open Idealize.ShloMosaic
open scoped BigOperators

/-- A fold by `or` from zero that is one met a one. -/
theorem foldl_ori_eq_one {ι : Type} (f : ι → BitVec 1) (l : List ι) (init : BitVec 1)
    (h : l.foldl (fun r n => IntOp.ori r (f n)) init = 1#1) : init = 1#1 ∨ ∃ n ∈ l, f n = 1#1 := by
  induction l generalizing init with
  | nil => exact .inl h
  | cons a l ih =>
    rcases ih _ h with h | ⟨n, hn, h⟩
    · have : ∀ c d : BitVec 1, IntOp.ori c d = 1#1 → c = 1#1 ∨ d = 1#1 := by decide
      exact (this _ _ h).imp id fun h => ⟨a, List.mem_cons_self, h⟩
    · exact .inr ⟨n, List.mem_cons_of_mem _ hn, h⟩

/-- A reduce by `or` from zero that is one met a one. -/
theorem reduce_ori {s t u : Shape} {axes : List (Fin s.rank)} (x : s.Idx → BitVec 1) (init : u.Idx → BitVec 1) (h : s.ReducesTo axes t)
    (hu : 0 < u.numel) (j : t.Idx) (h0 : init (Shape.Idx.first hu) = 0#1) (e : Host.reduce IntOp.ori x init h hu j = 1#1) :
    ∃ i, h.drop i = j ∧ x i = 1#1 := by
  rw [Host.reduce_eq_foldl] at e
  rcases foldl_ori_eq_one _ _ _ e with e | ⟨i, hi, e⟩
  · exact absurd (h0.symm.trans e) (by decide)
  · rw [List.mem_filter] at hi
    exact ⟨i, by simpa using hi.2, e⟩

/-- A value whose magnitude is below infinity is a real. -/
theorem real_of_abs (x : EReal) (h : max x (-x) < ⊤) : ∃ t : ℝ, x = t := by
  induction x with
  | bot => simp at h
  | top => simp at h
  | coe r => exact ⟨r, rfl⟩

/-- The word of infinity. -/
theorem bits_inf : Ideal.ofBits .f32 0x7F800000#32 = ⊤ := by simp [Ideal.ofBits, Ideal.ieee]

/-- The word of zero. -/
theorem bits_zero : Ideal.ofBits .f32 0x00000000#32 = 0 := by simp [Ideal.ofBits, Ideal.ieee]

/-- A comparison that reads one holds. -/
theorem one_of_bool {p : Prop} [Decidable p] (h : BitVec.ofBool (decide p) = 1#1) : p := by
  by_contra hp
  rw [decide_eq_false hp] at h
  exact absurd h (by decide)

/-- The precondition, read. -/
theorem of_pre (a0 : FVec Ideal S8x512x128 .f32) (a1 : FVec Ideal S512x128 .f32) (a2 : FVec Ideal S16x128 .f32)
    (h : fn (F := Ideal) a0 a1 a2 = fun _ => 1#1) :
    (∃ i, ∀ d, ∃ t : ℝ, a1 (ix2 i d) = t) ∧ ∀ l, ∃ d, a2 (ix2 l d) ≠ (0 : EReal) := by
  have hj := congrFun h (Shape.Idx.first h_S_)
  dsimp only [fn] at hj
  obtain ⟨h1, h2⟩ := IntOp.andi_eq_one.1 hj
  haveI : Subsingleton S_.Idx := ⟨fun a b => funext fun x => x.elim0⟩
  constructor
  · obtain ⟨i, -, e⟩ := reduce_ori _ _ _ _ _ (by rfl) h1
    refine ⟨i 0, fun d => ?_⟩
    have e := Host.reduce_andi_eq_one _ _ _ _ i e (ix2 (i 0) d) (funext fun a => by
      match a with
      | ⟨0, _⟩ => exact Fin.ext (Shape.ReducesTo.drop_apply_val_of_eq Gen.reducesTo_S512x128_S512_d1 (ix2 (i 0) d) 0 0))
    have e' : a1 (ix2 (i 0) d) ⊔ -a1 (ix2 (i 0) d) < (Ideal.ofBits .f32 0x7F800000#32 : EReal) := one_of_bool e
    rw [bits_inf] at e'
    exact real_of_abs _ e'
  · intro l
    obtain ⟨j, hd, e⟩ := reduce_ori _ _ _ _ _ (by rfl) (Host.reduce_andi_all _ _ _ _ _ h2 (ix1 l))
    have hl : j 0 = l := Fin.ext ((Shape.ReducesTo.drop_apply_val_of_eq Gen.reducesTo_S16x128_S16_d1 j 0 0).symm.trans
      (congrArg (fun z : S16.Idx => (z 0).val) hd))
    have hjx : j = ix2 l (j 1) := by
      funext a
      match a with
      | ⟨0, _⟩ => exact hl
      | ⟨1, _⟩ => rfl
    refine ⟨j 1, fun hz => ?_⟩
    have e' : a2 j ≠ (Ideal.ofBits .f32 0x00000000#32 : EReal) := one_of_bool e
    rw [bits_zero] at e'
    exact e' ((congrArg a2 hjx).trans hz)

end Cert.Cond

end
-- ==== Proof.Run.Final.lean ====
module
public import proofs.«01_k».proof.Proof.Run.ValK
public import proofs.«01_k».proof.Proof.Run.ValR
public import proofs.«01_k».proof.Proof.Run.Cond

/-! The two programs' results are the same arrays. -/

@[expose] public section

set_option maxRecDepth 16384

noncomputable section

namespace Cert.Final

open Cert.KernelIdeal Cert.KernelIdeal.Gen Cert.KernelIdeal.Hand Cert.Spec Cert.Ranks
open Idealize.ShloMosaic Idealize.ShloMosaic.TcCoe

variable (m : (ℓ : Loc nD τ sig) → Buf (Elt Ideal) ℓ) (c : Dev nD)
variable (x : FVec Ideal S8x512x128 .f32) (r : FVec Ideal S512x128 .f32) (w : FVec Ideal S16x128 .f32)

/-- The embeddings of the two programs are the same. -/
theorem emb_same (hx : x = m ((c.tc : Thread nD τ).loc main_arg0)) (hr : r = m ((c.tc : Thread nD τ).loc main_arg1))
    (hw : w = m ((c.tc : Thread nD τ).loc main_arg2)) : Cert.ReferenceIdeal.Hand.embV x r w = embArr m c := by
  subst hx hr hw
  funext i
  rw [← ix3_eta i]
  refine (Cert.ReferenceIdeal.Hand.embV_at _ _ _ (aX m c) (aR m c) (aW m c) (fun _ => rfl) rfl rfl (i 0) (i 1) (i 2)).trans ?_
  exact (embArr_at m c (i 0) (i 1) (i 2)).symm

/-- Under the precondition the soft distances of the two programs are the same. -/
theorem dist_same (hx : x = m ((c.tc : Thread nD τ).loc main_arg0)) (hr : r = m ((c.tc : Thread nD τ).loc main_arg1))
    (hw : w = m ((c.tc : Thread nD τ).loc main_arg2))
    (hp : Cert.Pre_a_finite_point_and_directions.fn (F := Ideal) x r w = fun _ => 1#1) :
    Cert.ReferenceIdeal.Hand.distV x r w = dlSum m c := by
  obtain ⟨⟨n, h1⟩, h2⟩ := Cert.Cond.of_pre x r w hp
  subst hx hr hw
  funext i
  rw [← ix1_eta i]
  refine (Cert.ReferenceIdeal.Hand.distV_at _ _ _ (aX m c) (aR m c) (aW m c) (fun _ => rfl) rfl rfl (i 0)).trans ?_
  refine Eq.trans ?_ (dlSum_at m c (i 0)).symm
  exact (dist_eq (fun b => cost (aR m c) (aX m c b)) (proj (aR m c) (aW m c) (i 0)) (fun b => proj (aX m c b) (aW m c) (i 0))
    ⟨n, proj_real _ _ _ n h1 (h2 _)⟩ (fun b i n => cost_pos _ _ i n)).symm

end Cert.Final

end
-- ==== Proof.Run.Same.lean ====
module

public import proofs.«01_k».proof.Defs
public import proofs.«01_k».proof.Proof.Gen.Kernel.Launch
public import proofs.«01_k».proof.Proof.Run.Launch

/-! The kernel as printed and the kernel as read at the ideal instance are one text, so the run of the one is the run
of the other. -/

@[expose] public section

set_option maxRecDepth 65536

noncomputable section

namespace Cert.Kernel.Hand

open Idealize.ShloMosaic Idealize.ShloMosaic.TcCoe Idealize.SL.Sem

variable {F : FTy → Type} [FloatOps F]

set_option maxHeartbeats 4000000 in
/-- The two printed texts are the same program. -/
theorem main_same : (Cert.Kernel.main (F := F)) = Cert.KernelIdeal.main (F := F) := by
  with_unfolding_all rfl

set_option maxHeartbeats 4000000 in
/-- The two printed texts define the same functions. -/
theorem defs_same : (Cert.Kernel.defs (F := F)) = Cert.KernelIdeal.defs (F := F) := by
  sl_kernel_rfl

set_option maxHeartbeats 4000000 in
/-- The kernel as printed runs, keeps its arguments, and ends with every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [main_same, defs_same]
  exact (θ_run (Cert.KernelIdeal.defs (F := F)) _ _).mono (fun r h => ⟨fun c => (h.1 c).2.2, h.2⟩)
    (Cert.KernelIdeal.Hand.run_value m ρ)

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_a_finite_point_and_directions
public import proofs.«01_k».proof.Proof.Run.Final
public import proofs.«01_k».proof.Proof.Run.Same
public import Idealize.ShloMosaic.Adequacy
public import Idealize.ShloMosaic.Init

@[expose] public section

noncomputable section

namespace Cert.Proof

open Idealize.ShloMosaic Idealize.SL.Sem Cert.Kernel

/-- Both programs end at the kernel's arrays. -/
theorem same : Cert.algebraic_KernelIdeal_ReferenceIdeal_pre_a_finite_point_and_directions := by
  intro m g m' g' hp ha
  refine ⟨fun c => Cert.KernelIdeal.Hand.embArr m c, fun c => Cert.KernelIdeal.Hand.dlSum m c, ?_, ?_⟩
  · exact (θ_run _ _ _).mono (fun r h => h.1) (Cert.KernelIdeal.Hand.run_value m g)
  · refine (θ_run _ _ _).mono (fun r h c => ?_) (Cert.ReferenceIdeal.Hand.run_stages m' g')
    obtain ⟨h0, h1, k0, k1, k2⟩ := h c
    obtain ⟨a0, a1, a2⟩ := ha c
    refine ⟨h0.trans (Cert.Final.emb_same m c _ _ _ a0 a1 a2), h1.trans (Cert.Final.dist_same m c _ _ _ a0 a1 a2 ?_), k0, k1, k2⟩
    rw [a0, a1, a2]
    exact hp c

/-- The reference runs, keeps its arguments, and ends with every counter at zero. -/
theorem reference_frame : Cert.quiescent_ReferenceIdeal := fun m g _ =>
  (θ_run _ _ _).mono (fun r h => ⟨fun c => (h c).2.2, sem_eq_zero_of_no_sems (by decide) r.2⟩) (Cert.ReferenceIdeal.Value.run m g)

/-- The kernel as read at the ideal instance runs, keeps its arguments, and ends with every counter at zero. -/
theorem kernel_frame : Cert.quiescent_KernelIdeal := fun m g _ =>
  (θ_run _ _ _).mono (fun r h => ⟨fun c => (h.1 c).2.2, h.2⟩) (Cert.KernelIdeal.Hand.run_value m g)

/-- All the claims: the three runs keep their arguments, with and without the condition on them, the printed kernel is
the one read at the ideal instance, and the kernel and the reference end at the same results. -/
theorem claim : Cert.Claim := ⟨Cert.Kernel.Gen.facts, Cert.KernelIdeal.Gen.facts, Cert.ReferenceIdeal.Gen.facts, Cert.Pre_a_finite_point_and_directions.Gen.facts,
  fun m g _ => Cert.Kernel.Hand.run m g, kernel_frame, fun m g _ => kernel_frame m g trivial,
  reference_frame, fun m g _ => reference_frame m g trivial, trivial, same⟩

end Cert.Proof

end
